-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_incidence [hPre_binary_incidence : Cert.Pre_binary_incidence.Facts] (m : (ℓ : Loc Cert.KernelIdeal.nD Cert.KernelIdeal.τ Cert.KernelIdeal.sig) → Buf (Elt Ideal) ℓ) : Prop :=
  ∀ c : Dev Cert.KernelIdeal.nD,
    (Cert.Pre_binary_incidence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_incidence [hPre_binary_incidence : Cert.Pre_binary_incidence.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_incidence.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_binary_incidence [hKernelIdeal : Cert.KernelIdeal.Facts] [hPre_binary_incidence : Cert.Pre_binary_incidence.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_incidence m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_binary_incidence [hReferenceIdeal : Cert.ReferenceIdeal.Facts] [hPre_binary_incidence : Cert.Pre_binary_incidence.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_incidence m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_binary_incidence [hKernelIdeal : Cert.KernelIdeal.Facts] [hReferenceIdeal : Cert.ReferenceIdeal.Facts] [hPre_binary_incidence : Cert.Pre_binary_incidence.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_incidence m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_binary_incidence : Cert.Pre_binary_incidence.Facts),
    quiescent_Kernel (hKernel := hKernel)
    ∧ quiescent_KernelIdeal (hKernelIdeal := hKernelIdeal)
    ∧ quiescent_KernelIdeal_pre_binary_incidence (hKernelIdeal := hKernelIdeal) (hPre_binary_incidence := hPre_binary_incidence)
    ∧ quiescent_ReferenceIdeal (hReferenceIdeal := hReferenceIdeal)
    ∧ quiescent_ReferenceIdeal_pre_binary_incidence (hReferenceIdeal := hReferenceIdeal) (hPre_binary_incidence := hPre_binary_incidence)
    ∧ preserves_Kernel_KernelIdeal
    ∧ algebraic_KernelIdeal_ReferenceIdeal_pre_binary_incidence (hKernelIdeal := hKernelIdeal) (hReferenceIdeal := hReferenceIdeal) (hPre_binary_incidence := hPre_binary_incidence)
-- ==== Pre_binary_incidence.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩

class Facts : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x10000_0_1 : S10000x1.BroadcastsInDim S10000x10000 (![0, 1] : Fin 2 → Fin S10000x10000.rank)

variable [Facts]

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128x128 .f32) : IVec S10000x10000 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .oeq main_arg1 main_v0
  let main_cst_0 : FVec F S_ .f32 := constant S_ .f32 0x3F800000#32
  let main_v2 : FVec F S10000x10000 .f32 := broadcastInDim S10000x10000 ![] bcast_S_S10000x10000 main_cst_0
  let main_v3 : IVec S10000x10000 1 := cmpf .oeq main_arg1 main_v2
  let main_v4 : IVec S10000x10000 1 := ori main_v1 main_v3
  let main_cst_1 : FVec F S_ .f32 := constant S_ .f32 0x00000000#32
  let main_v5 : FVec F S10000 .f32 := (fun x v => Host.reduceAdd x v reducesTo_S10000x10000_S10000_d1 h_S_) main_arg1 main_cst_1
  let main_v6 : FVec F S10000x1 .f32 := broadcastInDim S10000x1 ![0] bcast_S10000_S10000x1_0 main_v5
  let main_cst_2 : FVec F S_ .f32 := constant S_ .f32 0x00000000#32
  let main_v7 : FVec F S10000x1 .f32 := broadcastInDim S10000x1 ![] bcast_S_S10000x1 main_cst_2
  let main_v8 : IVec S10000x1 1 := cmpf .ogt main_v6 main_v7
  let main_v9 : IVec S10000x10000 1 := broadcastInDim S10000x10000 ![0, 1] bcast_S10000x1_S10000x10000_0_1 main_v8
  let main_v10 : IVec S10000x10000 1 := andi main_v4 main_v9
  main_v10
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S10000x1 : Shape := ⟨2, ![10000, 1]⟩
abbrev S2x10000 : Shape := ⟨2, ![2, 10000]⟩
abbrev S128x10240 : Shape := ⟨2, ![128, 10240]⟩
abbrev S1250x8x10240 : Shape := ⟨3, ![1250, 8, 10240]⟩
abbrev S200x128 : Shape := ⟨2, ![200, 128]⟩
abbrev S200x10000 : Shape := ⟨2, ![200, 10000]⟩
abbrev S200x1 : Shape := ⟨2, ![200, 1]⟩
abbrev S25x8x10240 : Shape := ⟨3, ![25, 8, 10240]⟩
abbrev S200 : Shape := ⟨1, ![200]⟩
abbrev S200x2 : Shape := ⟨2, ![200, 2]⟩
abbrev S200x240 : Shape := ⟨2, ![200, 240]⟩
abbrev S200x10240 : Shape := ⟨2, ![200, 10240]⟩
abbrev S1x10000 : Shape := ⟨2, ![1, 10000]⟩
abbrev S_ : Shape := ⟨0, ![]⟩
abbrev S1x10240 : Shape := ⟨2, ![1, 10240]⟩
abbrev S1 : Shape := ⟨1, ![1]⟩
abbrev S10240x128 : Shape := ⟨2, ![10240, 128]⟩
abbrev S125x8x10240 : Shape := ⟨3, ![125, 8, 10240]⟩
abbrev S1000x128 : Shape := ⟨2, ![1000, 128]⟩
abbrev S1000x1 : Shape := ⟨2, ![1000, 1]⟩
abbrev S1000x10240 : Shape := ⟨2, ![1000, 10240]⟩
abbrev S128x10000 : Shape := ⟨2, ![128, 10000]⟩
abbrev S1250x8x512 : Shape := ⟨3, ![1250, 8, 512]⟩
abbrev S128x512 : Shape := ⟨2, ![128, 512]⟩
abbrev S10000x512 : Shape := ⟨2, ![10000, 512]⟩

abbrev nBuf : Space → Nat
  | .hbm => 40
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S10000x128, .f32⟩
  | .hbm, ⟨8, _⟩ => ⟨S10000x1, .f32⟩
  | .hbm, ⟨9, _⟩ => ⟨S2x10000, .f32⟩
  | .hbm, ⟨10, _⟩ => ⟨S128x10240, .f32⟩
  | .hbm, ⟨11, _⟩ => ⟨S1250x8x10240, .i8⟩
  | .hbm, ⟨12, _⟩ => ⟨S1x10000, .f32⟩
  | .hbm, ⟨13, _⟩ => ⟨S1x10000, .f32⟩
  | .hbm, ⟨14, _⟩ => ⟨S1x10000, .f32⟩
  | .hbm, ⟨15, _⟩ => ⟨S1x10000, .f32⟩
  | .hbm, ⟨16, _⟩ => ⟨S_, .f32⟩
  | .hbm, ⟨17, _⟩ => ⟨S1x10240, .f32⟩
  | .hbm, ⟨18, _⟩ => ⟨S1x10000, .f32⟩
  | .hbm, ⟨19, _⟩ => ⟨S_, .i32⟩
  | .hbm, ⟨20, _⟩ => ⟨S1, .i32⟩
  | .hbm, ⟨21, _⟩ => ⟨S1x10240, .f32⟩
  | .hbm, ⟨22, _⟩ => ⟨S128x10240, .f32⟩
  | .hbm, ⟨23, _⟩ => ⟨S128x10240, .f32⟩
  | .hbm, ⟨24, _⟩ => ⟨S10240x128, .f32⟩
  | .hbm, ⟨25, _⟩ => ⟨S10240x128, .bf16⟩
  | .hbm, ⟨26, _⟩ => ⟨S10000x1, .f32⟩
  | .hbm, ⟨27, _⟩ => ⟨S10000x128, .f32⟩
  | .hbm, ⟨28, _⟩ => ⟨S128x10000, .f32⟩
  | .hbm, ⟨29, _⟩ => ⟨S128x10000, .bf16⟩
  | .hbm, ⟨30, _⟩ => ⟨S128x10240, .f32⟩
  | .hbm, ⟨31, _⟩ => ⟨S128x10000, .f32⟩
  | .hbm, ⟨32, _⟩ => ⟨S128x10000, .f32⟩
  | .hbm, ⟨33, _⟩ => ⟨S128x10000, .f32⟩
  | .hbm, ⟨34, _⟩ => ⟨S10000x128, .f32⟩
  | .hbm, ⟨35, _⟩ => ⟨S128x10240, .f32⟩
  | .hbm, ⟨36, _⟩ => ⟨S128x10240, .f32⟩
  | .hbm, ⟨37, _⟩ => ⟨S10240x128, .f32⟩
  | .hbm, ⟨38, _⟩ => ⟨S10240x128, .bf16⟩
  | .hbm, ⟨39, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S200x10000, .f32⟩
  | .local _ .vmem, ⟨3, _⟩ => ⟨S200x10000, .f32⟩
  | .local _ .vmem, ⟨4, _⟩ => ⟨S128x128, .f32⟩
  | .local _ .vmem, ⟨5, _⟩ => ⟨S1x128, .f32⟩
  | .local _ .vmem, ⟨6, _⟩ => ⟨S200x128, .f32⟩
  | .local _ .vmem, ⟨7, _⟩ => ⟨S200x128, .f32⟩
  | .local _ .vmem, ⟨8, _⟩ => ⟨S200x1, .f32⟩
  | .local _ .vmem, ⟨9, _⟩ => ⟨S200x1, .f32⟩
  | .local _ .vmem, ⟨10, _⟩ => ⟨S2x10000, .f32⟩
  | .local _ .vmem, ⟨11, _⟩ => ⟨S128x10240, .f32⟩
  | .local _ .vmem, ⟨12, _⟩ => ⟨S25x8x10240, .i8⟩
  | .local _ .vmem, ⟨13, _⟩ => ⟨S25x8x10240, .i8⟩
  | .local _ .vmem, ⟨14, _⟩ => ⟨S125x8x10240, .i8⟩
  | .local _ .vmem, ⟨15, _⟩ => ⟨S125x8x10240, .i8⟩
  | .local _ .vmem, ⟨16, _⟩ => ⟨S10240x128, .bf16⟩
  | .local _ .vmem, ⟨17, _⟩ => ⟨S1000x128, .f32⟩
  | .local _ .vmem, ⟨18, _⟩ => ⟨S1000x128, .f32⟩
  | .local _ .vmem, ⟨19, _⟩ => ⟨S1000x1, .f32⟩
  | .local _ .vmem, ⟨20, _⟩ => ⟨S1000x1, .f32⟩
  | .local _ .vmem, ⟨21, _⟩ => ⟨S128x128, .f32⟩
  | .local _ .vmem, ⟨22, _⟩ => ⟨S1000x128, .f32⟩
  | .local _ .vmem, ⟨23, _⟩ => ⟨S1000x128, .f32⟩
  | .local _ .vmem, ⟨24, _⟩ => ⟨S1250x8x512, .i8⟩
  | .local _ .vmem, ⟨25, _⟩ => ⟨S1250x8x512, .i8⟩
  | .local _ .vmem, ⟨26, _⟩ => ⟨S128x10000, .bf16⟩
  | .local _ .vmem, ⟨27, _⟩ => ⟨S128x512, .f32⟩
  | .local _ .vmem, ⟨28, _⟩ => ⟨S128x512, .f32⟩
  | .local _ .vmem, ⟨29, _⟩ => ⟨S125x8x10240, .i8⟩
  | .local _ .vmem, ⟨30, _⟩ => ⟨S125x8x10240, .i8⟩
  | .local _ .vmem, ⟨31, _⟩ => ⟨S10240x128, .bf16⟩
  | .local _ .vmem, ⟨32, _⟩ => ⟨S1000x128, .f32⟩
  | .local _ .vmem, ⟨33, _⟩ => ⟨S1000x128, .f32⟩
  | .local _ .vmem, ⟨34, _⟩ => ⟨S1000x1, .f32⟩
  | .local _ .vmem, ⟨35, _⟩ => ⟨S1000x1, .f32⟩
  | .local _ .vmem, ⟨36, _⟩ => ⟨S128x128, .f32⟩
  | .local _ .vmem, ⟨37, _⟩ => ⟨S1000x128, .f32⟩
  | .local _ .vmem, ⟨38, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem5_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10240 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S25x8x10240 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S125x8x10240 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1250x8x512 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S125x8x10240 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 92
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x10000, .f32⟩
  | .hbm, ⟨15, _⟩ => ⟨S_, .f32⟩
  | .hbm, ⟨16, _⟩ => ⟨S10000, .f32⟩
  | .hbm, ⟨17, _⟩ => ⟨S10000x128, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S128x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000x128, .f32⟩
  | .hbm, ⟨52, _⟩ => ⟨S10000x128, .f32⟩
  | .hbm, ⟨53, _⟩ => ⟨S10000x10000, .f32⟩
  | .hbm, ⟨54, _⟩ => ⟨S_, .f32⟩
  | .hbm, ⟨55, _⟩ => ⟨S10000, .f32⟩
  | .hbm, ⟨56, _⟩ => ⟨S10000x128, .f32⟩
  | .hbm, ⟨57, _⟩ => ⟨S10000x1, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000, .f32⟩
  | .hbm, ⟨62, _⟩ => ⟨S10000, .f32⟩
  | .hbm, ⟨63, _⟩ => ⟨S10000, .f32⟩
  | .hbm, ⟨64, _⟩ => ⟨S10000, .f32⟩
  | .hbm, ⟨65, _⟩ => ⟨S10000x1, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000x128, .f32⟩
  | .hbm, ⟨82, _⟩ => ⟨S10000x128, .f32⟩
  | .hbm, ⟨83, _⟩ => ⟨S128x128, .f32⟩
  | .hbm, ⟨84, _⟩ => ⟨S10000x128, .f32⟩
  | .hbm, ⟨85, _⟩ => ⟨S_, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_cst : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call2_cst : Ref sig .tc := ⟨.hbm, 89, rfl⟩
abbrev main_call2_v0 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Region0Body.lean ====
/- What region 0's body leaves in each output's staging buffer at a point, as the program's own payloads of the loaded blocks. -/
module

public import proofs.«01_k».proof.Proof.Gen.KernelIdeal.Frame
public import Idealize.ShloMosaic.Lib.Pipeline.Value

@[expose] public section

set_option maxRecDepth 16384

noncomputable section

namespace Cert.Proof.Region0

open Idealize.ShloMosaic Idealize.ShloMosaic.TcCoe Idealize.ShloMosaic.Tactic
open Cert.KernelIdeal Cert.KernelIdeal.Gen

variable {F : FTy → Type} [FloatOps F]
  (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S200x128 .f32) (harg5 : arg5.IsWhole) (arg6 : Memref sig .tc .vmem S200x1 .f32) (harg6 : arg6.IsWhole) (arg7 : Memref sig .tc .vmem S2x10000 .f32) (harg7 : arg7.IsWhole) (arg8 : Memref sig .tc .vmem S128x10240 .f32) (harg8 : arg8.IsWhole) (arg9 : Memref sig .tc .vmem S25x8x10240 .i8) (harg9 : arg9.IsWhole)
  (x0 : Vec F S200x128 .f32) (x1 : Vec F S200x10000 .f32) (x2 : Vec F S128x128 .f32) (x3 : Vec F S1x128 .f32)

/-- The zero offsets of a two-axis access. -/
theorem zero2 : (![0, 0] : Fin 2 → Nat) = fun _ => 0 := funext fun a => by fin_cases a <;> rfl
/-- The zero offsets of a three-axis access. -/
theorem zero3 : (![0, 0, 0] : Fin 3 → Nat) = fun _ => 0 := funext fun a => by fin_cases a <;> rfl

/-- Case A: the embedding block. -/
theorem out_A_4 (hc : cond0_0 i) : out0_A_4 (F := F) c i arg1 harg1 arg2 harg2 arg3 harg3 arg4 harg4 arg5 harg5 arg6 harg6 arg7 harg7 arg8 harg8 arg9 harg9 hc x0 x1 x2 x3 = k0_pay2 x0 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 hc x0 x1 x2 x3)]
  unfold kernelRun0_A
  dsimp only
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case A: the row sums. -/
theorem out_A_5 (hc : cond0_0 i) : out0_A_5 (F := F) c i arg1 harg1 arg2 harg2 arg3 harg3 arg4 harg4 arg5 harg5 arg6 harg6 arg7 harg7 arg8 harg8 arg9 harg9 hc x0 x1 x2 x3 = k0_pay3 x1 := by
  unfold out0_A_5
  rw [View.read_writes_eq_canon _ _ _ (cover0_A_5 c i arg1 harg1 arg2 harg2 arg3 harg3 arg4 harg4 arg5 harg5 arg6 harg6 arg7 harg7 arg8 harg8 arg9 harg9 hc x0 x1 x2 x3)]
  unfold kernelRun0_A
  dsimp only
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case A: the column sums. -/
theorem out_A_6 (hc : cond0_0 i) : out0_A_6 (F := F) c i arg1 harg1 arg2 harg2 arg3 harg3 arg4 harg4 arg5 harg5 arg6 harg6 arg7 harg7 arg8 harg8 arg9 harg9 hc x0 x1 x2 x3 = k0_pay6 x1 k0_pay4 := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3)]
  unfold kernelRun0_A
  dsimp only
  sl_unfold_words
  rw [View.canon_cons_unit_zero (S := S2x10000) zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2,
    View.readCov_unit_zero (S := S2x10000) _ zero2]

/-- Case A: the transposed feature sums. -/
theorem out_A_7 (hc : cond0_0 i) : out0_A_7 (F := F) c i arg1 harg1 arg2 harg2 arg3 harg3 arg4 harg4 arg5 harg5 arg6 harg6 arg7 harg7 arg8 harg8 arg9 harg9 hc x0 x1 x2 x3 = k0_pay1 (k0_pay2 x0 x2 x3) (k0_pay7 x1) k0_pay5 := by
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3)]
  unfold kernelRun0_A
  dsimp only
  sl_unfold_words
  rw [View.canon_cons_unit_zero (S := S128x10240) zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2,
    View.readCov_unit_zero (S := S128x10240) _ zero2]

/-- Case A: the packed block. -/
theorem out_A_8 (hc : cond0_0 i) : out0_A_8 (F := F) c i arg1 harg1 arg2 harg2 arg3 harg3 arg4 harg4 arg5 harg5 arg6 harg6 arg7 harg7 arg8 harg8 arg9 harg9 hc x0 x1 x2 x3 = k0_pay8 x1 := by
  unfold out0_A_8
  rw [View.read_writes_eq_canon _ _ _ (cover0_A_8 c i arg1 harg1 arg2 harg2 arg3 harg3 arg4 harg4 arg5 harg5 arg6 harg6 arg7 harg7 arg8 harg8 arg9 harg9 hc x0 x1 x2 x3)]
  unfold kernelRun0_A
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case B: the embedding block. -/
theorem out_B_4 (hc : ¬cond0_0 i) (xo6 : Vec F S2x10000 .f32) (xo7 : Vec F S128x10240 .f32) : out0_B_4 (F := F) c i arg1 harg1 arg2 harg2 arg3 harg3 arg4 harg4 arg5 harg5 arg6 harg6 arg7 harg7 arg8 harg8 arg9 harg9 hc x0 x1 x2 x3 xo6 xo7 = k0_pay2 x0 x2 x3 := by
  unfold out0_B_4
  rw [View.read_writes_eq_canon _ _ _ (cover0_B_4 c i arg1 harg1 arg2 harg2 arg3 harg3 arg4 harg4 arg5 harg5 arg6 harg6 arg7 harg7 arg8 harg8 arg9 harg9 hc x0 x1 x2 x3 xo6 xo7)]
  unfold kernelRun0_B
  dsimp only
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case B: the row sums. -/
theorem out_B_5 (hc : ¬cond0_0 i) (xo6 : Vec F S2x10000 .f32) (xo7 : Vec F S128x10240 .f32) : out0_B_5 (F := F) c i arg1 harg1 arg2 harg2 arg3 harg3 arg4 harg4 arg5 harg5 arg6 harg6 arg7 harg7 arg8 harg8 arg9 harg9 hc x0 x1 x2 x3 xo6 xo7 = k0_pay3 x1 := by
  unfold out0_B_5
  rw [View.read_writes_eq_canon _ _ _ (cover0_B_5 c i arg1 harg1 arg2 harg2 arg3 harg3 arg4 harg4 arg5 harg5 arg6 harg6 arg7 harg7 arg8 harg8 arg9 harg9 hc x0 x1 x2 x3 xo6 xo7)]
  unfold kernelRun0_B
  dsimp only
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case B: the column sums. -/
theorem out_B_6 (hc : ¬cond0_0 i) (xo6 : Vec F S2x10000 .f32) (xo7 : Vec F S128x10240 .f32) : out0_B_6 (F := F) c i arg1 harg1 arg2 harg2 arg3 harg3 arg4 harg4 arg5 harg5 arg6 harg6 arg7 harg7 arg8 harg8 arg9 harg9 hc x0 x1 x2 x3 xo6 xo7 = k0_pay6 x1 xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 xo6 xo7)]
  unfold kernelRun0_B
  dsimp only
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case B: the transposed feature sums. -/
theorem out_B_7 (hc : ¬cond0_0 i) (xo6 : Vec F S2x10000 .f32) (xo7 : Vec F S128x10240 .f32) : out0_B_7 (F := F) c i arg1 harg1 arg2 harg2 arg3 harg3 arg4 harg4 arg5 harg5 arg6 harg6 arg7 harg7 arg8 harg8 arg9 harg9 hc x0 x1 x2 x3 xo6 xo7 = k0_pay1 (k0_pay2 x0 x2 x3) (k0_pay7 x1) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 xo6 xo7)]
  unfold kernelRun0_B
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

/-- Case B: the packed block. -/
theorem out_B_8 (hc : ¬cond0_0 i) (xo6 : Vec F S2x10000 .f32) (xo7 : Vec F S128x10240 .f32) : out0_B_8 (F := F) c i arg1 harg1 arg2 harg2 arg3 harg3 arg4 harg4 arg5 harg5 arg6 harg6 arg7 harg7 arg8 harg8 arg9 harg9 hc x0 x1 x2 x3 xo6 xo7 = k0_pay8 x1 := by
  unfold out0_B_8
  rw [View.read_writes_eq_canon _ _ _ (cover0_B_8 c i arg1 harg1 arg2 harg2 arg3 harg3 arg4 harg4 arg5 harg5 arg6 harg6 arg7 harg7 arg8 harg8 arg9 harg9 hc x0 x1 x2 x3 xo6 xo7)]
  unfold kernelRun0_B
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread,
    View.ld_unit_zero (S := S200x128) zero2, View.ld_unit_zero (S := S200x10000) zero2, View.ld_unit_zero (S := S128x128) zero2,
    View.ld_unit_zero (S := S1x128) zero2, View.ld_unit_zero (S := S2x10000) zero2, View.ld_unit_zero (S := S128x10240) zero2]

end Cert.Proof.Region0

end
-- ==== Proof.Dots.lean ====
/- Three matrix products and a padded sum, read at an index over the extended reals. -/
module

public import Idealize.ShloMosaic.Lib.MatmulPlain
public import Idealize.ShloMosaic.Lib.ValueIdx

@[expose] public section

noncomputable section

namespace Cert.Proof

open Idealize.ShloMosaic Idealize.ShloMosaic.ValueIdx
open scoped BigOperators

/-- The dimension numbers of `[K,M]ᵀ × [K,N]`: both operands contracted on their first axis. -/
def firstAxes (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- `[K,M]ᵀ × [K,N]` at (r, c), into zero: the sum over the shared first axis of lhs[k,r] · rhs[k,c]. -/
theorem matmul_firstAxes {K M N : ℕ} {φ₁ φ₂ : FTy} (wf) (prec : Option ContractPrecision)
    (lhs : FVec Ideal ⟨2, ![K, M]⟩ φ₁) (rhs : FVec Ideal ⟨2, ![K, N]⟩ φ₂) (r : Fin M) (c : Fin N) :
    FloatOps.matmul (firstAxes K M N wf) prec lhs rhs (constant ⟨2, ![M, N]⟩ .f32 0x00000000#32) (ix2 r c)
      = ∑ k : Fin K, lhs (ix2 k r) * rhs (ix2 k c) := by
  rw [Ideal.matmul_constant_zero_apply, ← Equiv.sum_comp (contrEquiv1 (firstAxes K M N wf) K rfl rfl).symm]
  refine Finset.sum_congr rfl fun k _ => ?_
  have hk := contrEquiv1_symm_val (firstAxes K M N wf) K rfl rfl k
  have el : (firstAxes K M N wf).lhsIdx (ix2 r c) ((contrEquiv1 (firstAxes K M N wf) K rfl rfl).symm k) = ix2 k r := by
    funext a; apply Fin.ext
    match a with
    | ⟨0, _⟩ => exact hk
    | ⟨1, _⟩ => rfl
  have er : (firstAxes K M N wf).rhsIdx (ix2 r c) ((contrEquiv1 (firstAxes K M N wf) K rfl rfl).symm k) = ix2 k c := by
    funext a; apply Fin.ext
    match a with
    | ⟨0, _⟩ => exact hk
    | ⟨1, _⟩ => rfl
  rw [el, er]

/-- `[M,K] × [K,N]` at (r, c), into zero. -/
theorem matmul_rows {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply, constant_apply, Ideal.ofBits_zero_f32, zero_add]

/-- `[M,K] × [N,K]ᵀ` at (r, c), into zero. -/
theorem matmul_lastAxes {M K N : ℕ} {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_transposedRhs_apply, constant_apply, Ideal.ofBits_zero_f32, zero_add]

/-- A sum over the padded hyperedges whose terms past the last hyperedge vanish is the sum over the hyperedges. -/
theorem sum_padded (f : Fin 10240 → EReal) (hf : ∀ e : Fin 10240, 10000 ≤ e.val → f e = 0) :
    ∑ e, f e = ∑ e : Fin 10000, f ⟨e.val, by omega⟩ := by
  rw [show (∑ e, f e) = ∑ e : Fin (10000 + 240), f e from rfl, Fin.sum_univ_add]
  rw [Finset.sum_eq_zero (s := Finset.univ) (f := fun i : Fin 240 => f (Fin.natAdd 10000 i))
    (fun i _ => hf _ (by simp [Fin.natAdd])), add_zero]
  rfl

end Cert.Proof

end
-- ==== Proof.Region0Entries.lean ====
/- Region 0's payloads entry by entry over the extended reals, and a sum over all nodes taken block by block. -/
module

public import proofs.«01_k».proof.Proof.Gen.KernelIdeal.Skeleton
public import proofs.«01_k».proof.Proof.Dots
public import Idealize.ShloMosaic.Lib.Pipeline.Value

@[expose] public section

set_option maxRecDepth 16384

noncomputable section

namespace Cert.Proof

open Idealize.ShloMosaic Idealize.ShloMosaic.ValueIdx
open Cert.KernelIdeal Cert.KernelIdeal.Gen
open scoped BigOperators

/-- A node's embedding at a feature: its row against the weights' row, plus the bias, relu'd. -/
def embed (x w : Fin 128 → EReal) (b : EReal) : EReal := max ((∑ k, x k * w k) + b) 0

/-- A row of the incidence padded with zeros past the last hyperedge. -/
def padded (row : Fin 10000 → EReal) (e : Fin 10240) : EReal := if h : e.val < 10000 then row ⟨e.val, h⟩ else 0

/-- The embedding block at an entry. -/
theorem k0_pay2_apply (v0 : Vec Ideal S200x128 .f32) (v1 : Vec Ideal S128x128 .f32) (v3 : Vec Ideal S1x128 .f32) (r : Fin 200) (h : Fin 128) :
    k0_pay2 v0 v1 v3 (ix2 r h) = embed (fun k => v0 (ix2 r k)) (fun k => v1 (ix2 h k)) (v3 (ix2 0 h)) := by
  unfold k0_pay2
  simp only [shapeCast_self, maximumf_apply, addf_apply]
  have hm := matmul_lastAxes (φ₁ := .f32) (φ₂ := .f32) (M := 200) (K := 128) (N := 128) none v0 v1 r h
  have hb : broadcastTo S200x128 v3 broadcasts_S1x128_S200x128 (ix2 r h) = v3 (ix2 0 h) :=
    broadcastTo_apply v3 _ _ _ fun a => match a with
      | ⟨0, _⟩ => rfl
      | ⟨1, _⟩ => rfl
  unfold embed
  rw [hb, ← hm]
  exact congrArg (max _) Ideal.ofBits_zero_f32

/-- The row sums' block at an entry. -/
theorem k0_pay3_apply (v10 : Vec Ideal S200x10000 .f32) (r : Fin 200) (z : Fin 1) :
    k0_pay3 v10 (ix2 r z) = ∑ e : Fin 10000, (v10 (ix2 r e) : EReal) := by
  unfold k0_pay3
  refine (shapeCast_apply _ _ (ix2 r z) (ix1 r) ?_).trans ?_
  · rw [Shape.rowMajor_val_one, Shape.rowMajor_val_two]
    show r.val = r.val * 1 + z.val
    omega
  · refine (Ideal.multiReduction_add_single v10 _ reduces_S200x10000_S200 _ _ (ix1 r)).trans ?_
    refine Finset.sum_congr rfl fun e _ => congrArg v10 ?_
    funext a; apply Fin.ext
    match a with
    | ⟨0, _⟩ => rfl
    | ⟨1, _⟩ => rfl

/-- The two-column operand of the column sums: ones, then the row sums. -/
theorem pair_apply (v10 : Vec Ideal S200x10000 .f32) (r : Fin 200) (a : Fin 2) :
    concatenate S200x2 1 [⟨S200x1, (broadcast S200x1 (Scalar.ofBits .f32 0x3F800000#32) : FVec Ideal S200x1 .f32)⟩, ⟨S200x1, k0_pay3 v10⟩]
        concatenates_S200x1_S200x1_S200x2_d1 (ix2 r a)
      = if a = 0 then Ideal.ofBits .f32 0x3F800000#32 else ∑ e : Fin 10000, (v10 (ix2 r e) : EReal) := by
  fin_cases a
  · refine (concatenate_pair_apply_left (t := S200x2) (s₁ := S200x1) (s₂ := S200x1) 1 _ _ _ (ix2 r 0) rfl (ix2 r 0) fun b => ?_).trans ?_
    · match b with
      | ⟨0, _⟩ => rfl
      | ⟨1, _⟩ => rfl
    · rfl
  · refine (concatenate_pair_apply_right (t := S200x2) (s₁ := S200x1) (s₂ := S200x1) 1 _ _ _ (ix2 r 1) rfl rfl (ix2 r 0) (fun b hb => ?_) ?_).trans ?_
    · match b with
      | ⟨0, _⟩ => rfl
      | ⟨1, _⟩ => exact absurd rfl hb
    · rfl
    · exact k0_pay3_apply v10 r 0

/-- The column sums' block at an entry: what it held plus this block's rows, counted (first row) or weighted by their sums. -/
theorem k0_pay6_apply (v10 : Vec Ideal S200x10000 .f32) (v19 : Vec Ideal S2x10000 .f32) (a : Fin 2) (e : Fin 10000) :
    k0_pay6 v10 v19 (ix2 a e) = v19 (ix2 a e) + ∑ r : Fin 200,
      (if a = 0 then Ideal.ofBits .f32 0x3F800000#32 else ∑ e' : Fin 10000, (v10 (ix2 r e') : EReal)) * v10 (ix2 r e) := by
  unfold k0_pay6
  simp only [shapeCast_self, addf_apply]
  refine congrArg (v19 (ix2 a e) + ·) ?_
  refine (matmul_firstAxes (φ₁ := .f32) (φ₂ := .f32) (K := 200) (M := 2) (N := 10000) dot_S200x2_S200x10000_S2x10000_0_0_1_1_n_n_wf none _ v10 a e).trans ?_
  exact Finset.sum_congr rfl fun r _ => congrArg (· * (v10 (ix2 r e) : EReal)) (pair_apply v10 r a)

/-- The padded block at an entry. -/
theorem k0_pay7_apply (v10 : Vec Ideal S200x10000 .f32) (r : Fin 200) (e : Fin 10240) :
    k0_pay7 v10 (ix2 r e) = padded (fun e => v10 (ix2 r e)) e := by
  unfold k0_pay7 padded
  by_cases h : e.val < 10000
  · rw [dif_pos h]
    refine concatenate_pair_apply_left (t := S200x10240) (s₁ := S200x10000) (s₂ := S200x240) 1 _ _ _ (ix2 r e) rfl (ix2 r ⟨e.val, h⟩) fun b => ?_
    match b with
    | ⟨0, _⟩ => rfl
    | ⟨1, _⟩ => rfl
  · rw [dif_neg h]
    refine (concatenate_pair_apply_right (t := S200x10240) (s₁ := S200x10000) (s₂ := S200x240) 1 _ _ _ (ix2 r e) rfl rfl
      (ix2 r ⟨e.val - 10000, by omega⟩) (fun b hb => ?_) ?_).trans ?_
    · match b with
      | ⟨0, _⟩ => rfl
      | ⟨1, _⟩ => exact absurd rfl hb
    · show e.val - 10000 + 10000 = e.val
      omega
    · exact Ideal.ofBits_zero_f32

/-- The packed block at an entry: the padded entry as an eight-bit integer. -/
theorem k0_pay8_apply (v10 : Vec Ideal S200x10000 .f32) (a : Fin 25) (b : Fin 8) (e : Fin 10240) :
    k0_pay8 v10 (ix3 a b e) = Ideal.fptosi 8 (padded (fun e => v10 (ix2 ⟨8 * a.val + b.val, by omega⟩ e)) e) := by
  unfold k0_pay8
  refine (shapeCast_apply _ _ (ix3 a b e) (ix2 ⟨8 * a.val + b.val, by omega⟩ e) ?_).trans ?_
  · rw [Shape.rowMajor_val_three, Shape.rowMajor_val_two]
    show (8 * a.val + b.val) * 10240 + e.val = (a.val * 8 + b.val) * 10240 + e.val
    omega
  · exact congrArg (Ideal.fptosi 8) (k0_pay7_apply v10 _ e)

/-- The feature sums' block at an entry. -/
theorem k0_pay1_apply (v8 : FVec Ideal S200x128 .f32) (v25 : FVec Ideal S200x10240 .f32) (v29 : Vec Ideal S128x10240 .f32) (h : Fin 128) (e : Fin 10240) :
    k0_pay1 v8 v25 v29 (ix2 h e) = v29 (ix2 h e) + ∑ r : Fin 200, (v8 (ix2 r h) : EReal) * v25 (ix2 r e) := by
  unfold k0_pay1
  simp only [shapeCast_self, addf_apply]
  refine congrArg (v29 (ix2 h e) + ·) ?_
  exact matmul_firstAxes (φ₁ := .bf16) (φ₂ := .bf16) (K := 200) (M := 128) (N := 10240) dot_S200x128_S200x10240_S128x10240_0_0_1_1_n_n_wf none _ _ h e

/-- The 200 nodes of block `n` of a function of the node, summed. -/
def rowsOf (g : Fin 10000 → EReal) (n : ℕ) : EReal := if h : n < 50 then ∑ r : Fin 200, g ⟨200 * n + r.val, by omega⟩ else 0

/-- All fifty blocks together are all the nodes. -/
theorem sum_rowsOf (g : Fin 10000 → EReal) : ∑ n ∈ Finset.range 50, rowsOf g n = ∑ i, g i := by
  rw [Finset.sum_range, show (∑ i, g i) = ∑ i : Fin (50 * 200), g i from rfl, ← Equiv.sum_comp finProdFinEquiv, Fintype.sum_prod_type]
  refine Finset.sum_congr rfl fun n _ => ?_
  unfold rowsOf
  rw [dif_pos n.isLt]
  exact Finset.sum_congr rfl fun r _ => congrArg g (Fin.ext (Nat.add_comm _ _))

end Cert.Proof

end
-- ==== Proof.Region0.lean ====
/- Region 0: what its five output arrays hold after its fifty points, from the contents of its operands' arrays. -/
module

public import proofs.«01_k».proof.Proof.Region0Body
public import proofs.«01_k».proof.Proof.Region0Entries

@[expose] public section

set_option maxRecDepth 16384

noncomputable section

namespace Cert.Proof.Region0

open Idealize.ShloMosaic Idealize.ShloMosaic.TcCoe Idealize.ShloMosaic.ValueIdx
open Cert.KernelIdeal Cert.KernelIdeal.Gen Cert.Proof
open scoped BigOperators

variable (V : (c : Dev nD) → (b : Ref sig .tc) → Buf (Elt Ideal) ((c : Thread nD τ).loc b)) (c : Dev nD)

/-- The block indices of the nine windows at a point. -/
theorem indices : ∀ t : Fin grid0.N,
    ((win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0))
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0 ∧ win0_8.index t 2 = 0) := by decide +kernel

/-- A point is below fifty. -/
theorem point_lt (t : Fin cfg0.N) : t.val < 50 := lt_of_lt_of_eq t.isLt N_0

/-- The incidence's entry as a number. -/
def inc (i e : Fin 10000) : EReal := V c main_arg1 (ix2 i e)

/-- A node's embedding at a feature. -/
def emb (i : Fin 10000) (h : Fin 128) : EReal :=
  embed (fun k => V c main_arg0 (ix2 i k)) (fun k => V c main_arg2 (ix2 h k)) (V c main_v0 (ix2 0 h))

/-- What a node counts for in the two rows of column sums: one, and its row's sum. -/
def lead (a : Fin 2) (i : Fin 10000) : EReal :=
  if a = 0 then Ideal.ofBits .f32 0x3F800000#32 else ∑ e, inc V c i e

/-- The features' block at a point: two hundred rows. -/
theorem block0 (t : Fin cfg0.N) (r : Fin 200) (k : Fin 128) :
    (iblk0 V c 0 t : Vec Ideal S200x128 .f32) (ix2 r k)
      = V c main_arg0 (ix2 ⟨200 * t.val + r.val, by have := point_lt t; omega⟩ k) := by
  have hi := (indices t).1.1
  unfold iblk0
  rw [View.read_apply]
  show V c main_arg0 _ = V c main_arg0 _
  congr 1; funext d; apply Fin.ext
  match d with
  | ⟨0, _⟩ => show win0_0.index t 0 * 200 + 1 * r.val = 200 * t.val + r.val; rw [hi.1]; omega
  | ⟨1, _⟩ => show win0_0.index t 1 * 128 + 1 * k.val = k.val; rw [hi.2]; omega

/-- The incidence's block: two hundred rows. -/
theorem block1 (t : Fin cfg0.N) (r : Fin 200) (e : Fin 10000) :
    (iblk0 V c 1 t : Vec Ideal S200x10000 .f32) (ix2 r e)
      = inc V c ⟨200 * t.val + r.val, by have := point_lt t; omega⟩ e := by
  have hi := (indices t).1.2.1
  unfold iblk0 inc
  rw [View.read_apply]
  show V c main_arg1 _ = V c main_arg1 _
  congr 1; funext d; apply Fin.ext
  match d with
  | ⟨0, _⟩ => show win0_1.index t 0 * 200 + 1 * r.val = 200 * t.val + r.val; rw [hi.1]; omega
  | ⟨1, _⟩ => show win0_1.index t 1 * 10000 + 1 * e.val = e.val; rw [hi.2]; omega

/-- The embedding's weights: the whole array at every point. -/
theorem block2 (t : Fin cfg0.N) (h k : Fin 128) :
    (iblk0 V c 2 t : Vec Ideal S128x128 .f32) (ix2 h k) = V c main_arg2 (ix2 h k) := by
  have hi := (indices t).1.2.2.1
  unfold iblk0
  rw [View.read_apply]
  show V c main_arg2 _ = V c main_arg2 _
  congr 1; funext d; apply Fin.ext
  match d with
  | ⟨0, _⟩ => show win0_2.index t 0 * 128 + 1 * h.val = h.val; rw [hi.1]; omega
  | ⟨1, _⟩ => show win0_2.index t 1 * 128 + 1 * k.val = k.val; rw [hi.2]; omega

/-- The bias: the whole row at every point. -/
theorem block3 (t : Fin cfg0.N) (k : Fin 128) :
    (iblk0 V c 3 t : Vec Ideal S1x128 .f32) (ix2 0 k) = V c main_v0 (ix2 0 k) := by
  have hi := (indices t).1.2.2.2
  unfold iblk0
  rw [View.read_apply]
  show V c main_v0 _ = V c main_v0 _
  congr 1; funext d; apply Fin.ext
  match d with
  | ⟨0, _⟩ => show win0_3.index t 0 * 1 + 1 * 0 = 0; rw [hi.1]
  | ⟨1, _⟩ => show win0_3.index t 1 * 128 + 1 * k.val = k.val; rw [hi.2]; omega

/-- The incidence's row of a block, as a function. -/
theorem row1 (t : Fin cfg0.N) (r : Fin 200) :
    (fun e => (iblk0 V c 1 t : Vec Ideal S200x10000 .f32) (ix2 r e))
      = inc V c ⟨200 * t.val + r.val, by have := point_lt t; omega⟩ := funext fun e => block1 V c t r e

/-- The embedding payload of a point's blocks, at an entry. -/
theorem pay2_entry (t : Fin cfg0.N) (r : Fin 200) (h : Fin 128) :
    k0_pay2 (F := Ideal) (iblk0 V c 0 t) (iblk0 V c 2 t) (iblk0 V c 3 t) (ix2 r h)
      = emb V c ⟨200 * t.val + r.val, by have := point_lt t; omega⟩ h := by
  refine (k0_pay2_apply _ _ _ r h).trans ?_
  have e0 : (fun k : Fin 128 => (iblk0 V c 0 t : Vec Ideal S200x128 .f32) (ix2 r k))
      = fun k => V c main_arg0 (ix2 ⟨200 * t.val + r.val, by have := point_lt t; omega⟩ k) := funext fun k => block0 V c t r k
  have e2 : (fun k : Fin 128 => (iblk0 V c 2 t : Vec Ideal S128x128 .f32) (ix2 h k)) = fun k => V c main_arg2 (ix2 h k) :=
    funext fun k => block2 V c t h k
  rw [e0, e2, block3]
  rfl

/-- The padded incidence payload of a point's block, at an entry. -/
theorem pay7_entry (t : Fin cfg0.N) (r : Fin 200) (e : Fin 10240) :
    k0_pay7 (F := Ideal) (iblk0 V c 1 t) (ix2 r e)
      = padded (inc V c ⟨200 * t.val + r.val, by have := point_lt t; omega⟩) e := by
  refine (k0_pay7_apply _ r e).trans ?_
  rw [row1]

/-- The row sums' payload of a point's block, at an entry. -/
theorem pay3_entry (t : Fin cfg0.N) (r : Fin 200) (z : Fin 1) :
    k0_pay3 (F := Ideal) (iblk0 V c 1 t) (ix2 r z)
      = ∑ e, inc V c ⟨200 * t.val + r.val, by have := point_lt t; omega⟩ e :=
  (k0_pay3_apply _ r z).trans (Finset.sum_congr rfl fun e _ => block1 V c t r e)

/-- The packed payload of a point's block, at an entry. -/
theorem pay8_entry (t : Fin cfg0.N) (a : Fin 25) (b : Fin 8) (e : Fin 10240) :
    k0_pay8 (F := Ideal) (iblk0 V c 1 t) (ix3 a b e)
      = Ideal.fptosi 8 (padded (inc V c ⟨200 * t.val + (8 * a.val + b.val), by have := point_lt t; omega⟩) e) := by
  refine (k0_pay8_apply _ a b e).trans ?_
  rw [row1]

/-- A point's step of the column sums: what they held plus the point's nodes. -/
theorem pay6_entry (t : Fin cfg0.N) (v : Vec Ideal S2x10000 .f32) (a : Fin 2) (e : Fin 10000) :
    k0_pay6 (F := Ideal) (iblk0 V c 1 t) v (ix2 a e) = v (ix2 a e) + rowsOf (fun i => lead V c a i * inc V c i e) t.val := by
  refine (k0_pay6_apply _ v a e).trans (congrArg (v (ix2 a e) + ·) ?_)
  unfold rowsOf
  rw [dif_pos (point_lt t)]
  refine Finset.sum_congr rfl fun r _ => ?_
  refine congrArg₂ (fun x y : EReal => x * y) ?_ (block1 V c t r e)
  unfold lead
  split
  · rfl
  · exact Finset.sum_congr rfl fun e' _ => block1 V c t r e'

/-- A point's step of the feature sums. -/
theorem pay1_entry (t : Fin cfg0.N) (v : Vec Ideal S128x10240 .f32) (h : Fin 128) (e : Fin 10240) :
    k0_pay1 (F := Ideal) (k0_pay2 (iblk0 V c 0 t) (iblk0 V c 2 t) (iblk0 V c 3 t)) (k0_pay7 (iblk0 V c 1 t)) v (ix2 h e)
      = v (ix2 h e) + rowsOf (fun i => emb V c i h * padded (inc V c i) e) t.val := by
  refine (k0_pay1_apply _ _ v h e).trans (congrArg (v (ix2 h e) + ·) ?_)
  unfold rowsOf
  rw [dif_pos (point_lt t)]
  refine Finset.sum_congr rfl fun r _ => ?_
  rw [pay2_entry, pay7_entry]

/-- The embedding's block at a point. -/
theorem after_4 (t : Fin cfg0.N) : (dat0 V c).after 4 t = k0_pay2 (iblk0 V c 0 t) (iblk0 V c 2 t) (iblk0 V c 3 t) := by
  rw [after0_4]
  by_cases h0 : t.val % 50 = 0
  · rw [outsAt0_A V c t h0]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) ((hcond0_0 t).mpr h0)
  · rw [outsAt0_B V c t h0]
    dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (fun h => h0 ((hcond0_0 t).mp h)) _ _

/-- The row sums' block at a point. -/
theorem after_5 (t : Fin cfg0.N) : (dat0 V c).after 5 t = k0_pay3 (iblk0 V c 1 t) := by
  rw [after0_5]
  by_cases h0 : t.val % 50 = 0
  · rw [outsAt0_A V c t h0]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) ((hcond0_0 t).mpr h0)
  · rw [outsAt0_B V c t h0]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (fun h => h0 ((hcond0_0 t).mp h)) _ _

/-- The packed incidence's block at a point. -/
theorem after_8 (t : Fin cfg0.N) : (dat0 V c).after 8 t = k0_pay8 (iblk0 V c 1 t) := by
  rw [after0_8]
  by_cases h0 : t.val % 50 = 0
  · rw [outsAt0_A V c t h0]
    dsimp only
    exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) ((hcond0_0 t).mpr h0)
  · rw [outsAt0_B V c t h0]
    dsimp only
    exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (fun h => h0 ((hcond0_0 t).mp h)) _ _

/-- The column sums after point `n`: the nodes of the blocks up to it. -/
theorem sums_6 (a : Fin 2) (e : Fin 10000) : ∀ (n : ℕ) (hn : n < cfg0.N),
    (outsAt0 V c n hn).2.2.1 (ix2 a e) = ∑ s ∈ Finset.range (n + 1), rowsOf (fun i => lead V c a i * inc V c i e) s := by
  intro n
  induction n with
  | zero =>
    intro hn
    have hA : (outsAt0 V c 0 hn).2.2.1 = k0_pay6 (iblk0 V c 1 ⟨0, hn⟩) (k0_pay4 (F := Ideal)) := by
      rw [outsAt0_A V c ⟨0, hn⟩ rfl]
      dsimp only
      exact out_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (iblk0 V c 0 ⟨0, hn⟩) (iblk0 V c 1 ⟨0, hn⟩) (iblk0 V c 2 ⟨0, hn⟩) (iblk0 V c 3 ⟨0, hn⟩) ((hcond0_0 ⟨0, hn⟩).mpr rfl)
    rw [hA, Finset.sum_range_one]
    refine (pay6_entry V c ⟨0, hn⟩ (k0_pay4 (F := Ideal)) a e).trans ?_
    have hz : k0_pay4 (F := Ideal) (ix2 a e) = (0 : EReal) := Ideal.ofBits_zero_f32
    rw [hz]
    exact zero_add _
  | succ n ih =>
    intro hn
    have h0 : ¬ (n + 1) % 50 = 0 := by have : n + 1 < 50 := lt_of_lt_of_eq hn N_0; omega
    have hB : (outsAt0 V c (n + 1) hn).2.2.1 = k0_pay6 (iblk0 V c 1 ⟨n + 1, hn⟩) (outsAt0 V c n (Nat.lt_of_succ_lt hn)).2.2.1 := by
      rw [outsAt0_B V c ⟨n + 1, hn⟩ h0]
      dsimp only
      exact out_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (iblk0 V c 0 ⟨n + 1, hn⟩) (iblk0 V c 1 ⟨n + 1, hn⟩) (iblk0 V c 2 ⟨n + 1, hn⟩) (iblk0 V c 3 ⟨n + 1, hn⟩) (fun h => h0 ((hcond0_0 ⟨n + 1, hn⟩).mp h)) _ _
    rw [hB, Finset.sum_range_succ, ← ih (Nat.lt_of_succ_lt hn)]
    exact pay6_entry V c ⟨n + 1, hn⟩ _ a e

/-- The feature sums after point `n`: the nodes of the blocks up to it. -/
theorem sums_7 (h : Fin 128) (e : Fin 10240) : ∀ (n : ℕ) (hn : n < cfg0.N),
    (outsAt0 V c n hn).2.2.2.1 (ix2 h e) = ∑ s ∈ Finset.range (n + 1), rowsOf (fun i => emb V c i h * padded (inc V c i) e) s := by
  intro n
  induction n with
  | zero =>
    intro hn
    have hA : (outsAt0 V c 0 hn).2.2.2.1
        = k0_pay1 (k0_pay2 (iblk0 V c 0 ⟨0, hn⟩) (iblk0 V c 2 ⟨0, hn⟩) (iblk0 V c 3 ⟨0, hn⟩)) (k0_pay7 (iblk0 V c 1 ⟨0, hn⟩)) (k0_pay5 (F := Ideal)) := by
      rw [outsAt0_A V c ⟨0, hn⟩ rfl]
      dsimp only
      exact out_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (iblk0 V c 0 ⟨0, hn⟩) (iblk0 V c 1 ⟨0, hn⟩) (iblk0 V c 2 ⟨0, hn⟩) (iblk0 V c 3 ⟨0, hn⟩) ((hcond0_0 ⟨0, hn⟩).mpr rfl)
    rw [hA, Finset.sum_range_one]
    refine (pay1_entry V c ⟨0, hn⟩ (k0_pay5 (F := Ideal)) h e).trans ?_
    have hz : k0_pay5 (F := Ideal) (ix2 h e) = (0 : EReal) := Ideal.ofBits_zero_f32
    rw [hz]
    exact zero_add _
  | succ n ih =>
    intro hn
    have h0 : ¬ (n + 1) % 50 = 0 := by have : n + 1 < 50 := lt_of_lt_of_eq hn N_0; omega
    have hB : (outsAt0 V c (n + 1) hn).2.2.2.1
        = k0_pay1 (k0_pay2 (iblk0 V c 0 ⟨n + 1, hn⟩) (iblk0 V c 2 ⟨n + 1, hn⟩) (iblk0 V c 3 ⟨n + 1, hn⟩)) (k0_pay7 (iblk0 V c 1 ⟨n + 1, hn⟩))
            (outsAt0 V c n (Nat.lt_of_succ_lt hn)).2.2.2.1 := by
      rw [outsAt0_B V c ⟨n + 1, hn⟩ h0]
      dsimp only
      exact out_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (iblk0 V c 0 ⟨n + 1, hn⟩) (iblk0 V c 1 ⟨n + 1, hn⟩) (iblk0 V c 2 ⟨n + 1, hn⟩) (iblk0 V c 3 ⟨n + 1, hn⟩) (fun h => h0 ((hcond0_0 ⟨n + 1, hn⟩).mp h)) _ _
    rw [hB, Finset.sum_range_succ, ← ih (Nat.lt_of_succ_lt hn)]
    exact pay1_entry V c ⟨n + 1, hn⟩ _ h e

end Cert.Proof.Region0

end
-- ==== Proof.Region0Final.lean ====
/- Region 0's five output arrays after its last point, whole. -/
module

public import proofs.«01_k».proof.Proof.Region0

@[expose] public section

set_option maxRecDepth 16384

noncomputable section

namespace Cert.Proof.Region0

open Idealize.ShloMosaic Idealize.ShloMosaic.TcCoe Idealize.ShloMosaic.ValueIdx
open Cert.KernelIdeal Cert.KernelIdeal.Gen Cert.Proof
open scoped BigOperators

variable (V : (c : Dev nD) → (b : Ref sig .tc) → Buf (Elt Ideal) ((c : Thread nD τ).loc b)) (c : Dev nD)

/-- The embeddings' array. -/
def result4 : S10000x128.Idx → EReal := fun i => emb V c (i 0) (i 1)

/-- The row sums' array. -/
def result5 : S10000x1.Idx → EReal := fun i => ∑ e, inc V c (i 0) e

/-- The column sums' array: plain, and weighted by the row sums. -/
def result6 : S2x10000.Idx → EReal := fun j => ∑ i, lead V c (j 0) i * inc V c i (j 1)

/-- The feature sums' array. -/
def result7 : S128x10240.Idx → EReal := fun j => ∑ i, emb V c i (j 0) * padded (inc V c i) (j 1)

/-- The packed incidence: row `8 a + b` at `(a, b)`, as eight-bit integers. -/
def result8 : S1250x8x10240.Idx → BitVec 8 := fun j =>
  Ideal.fptosi 8 (padded (inc V c ⟨8 * (j 0).val + (j 1).val, by
    have h0 : (j 0).val < 1250 := (j 0).isLt
    have h1 : (j 1).val < 8 := (j 1).isLt
    omega⟩) (j 2))

/-- What a point writes back of the embeddings is the array's block there. -/
theorem flushed_4 (t : Fin cfg0.N) :
    (dat0 V c).flushed 4 t = ((cfg0.win 4).blk t).view.read (Elt Ideal) (result4 V c) := by
  have ht := point_lt t
  have hi := (indices t).2.1
  have hemb : ∀ (r : Fin 200) (h : Fin 128), ((cfg0.win 4).blk t).view.emb (ix2 r h)
      = (ix2 (⟨200 * t.val + r.val, by omega⟩ : Fin 10000) h : S10000x128.Idx) := fun r h => by
    funext d; apply Fin.ext
    match d with
    | ⟨0, _⟩ => show win0_4.index t 0 * 200 + 1 * r.val = 200 * t.val + r.val; rw [hi.1]; omega
    | ⟨1, _⟩ => show win0_4.index t 1 * 128 + 1 * h.val = h.val; rw [hi.2]; omega
  have hread : ∀ (r : Fin 200) (h : Fin 128), ((cfg0.win 4).blk t).view.read (Elt Ideal) (result4 V c) (ix2 r h)
      = result4 V c (ix2 (⟨200 * t.val + r.val, by omega⟩ : Fin 10000) h) := fun r h =>
    (View.read_apply _ _).trans (congrArg (result4 V c) (hemb r h))
  show (cfg0.win 4).cut (grid0.coords t) ((dat0 V c).after 4 t) = _
  rw [after_4]
  refine funext fun (j : S200x128.Idx) => ?_
  rw [eq_ix2 j]
  exact (pay2_entry V c t (j 0) (j 1)).trans (hread (j 0) (j 1)).symm

/-- After the last point the array of the embeddings is that one. -/
theorem final4 : (dat0 V c).arrAt 4 cfg0.N = result4 V c :=
  (dat0 V c).arrAt_eq_of_cover 4 (result4 V c) (fun t _ => flushed_4 V c t) fun (i : S10000x128.Idx) => by
    have h0 : (i 0 : Nat) < 10000 := (i 0).isLt
    have h1 : (i 1 : Nat) < 128 := (i 1).isLt
    let t : Fin grid0.N := ⟨(i 0 : Nat) / 200, by rw [show grid0.N = 50 from N_0]; omega⟩
    have hi := (indices t).2.1
    refine ⟨t, flush0_4 t, ?_⟩
    show i ∈ ((View.whole main_v1_0).slice (win0_4.rect t)).set
    rw [View.set_slice_whole, Rect.mem_set_unit]
    intro a
    match a with
    | ⟨0, _⟩ => show win0_4.index t 0 * 200 ≤ (i 0 : Nat) ∧ (i 0 : Nat) < win0_4.index t 0 * 200 + 200
                rw [hi.1]; show (i 0 : Nat) / 200 * 200 ≤ _ ∧ _ < (i 0 : Nat) / 200 * 200 + 200; omega
    | ⟨1, _⟩ => show win0_4.index t 1 * 128 ≤ (i 1 : Nat) ∧ (i 1 : Nat) < win0_4.index t 1 * 128 + 128
                rw [hi.2]; omega

/-- What a point writes back of the row sums is the array's block there. -/
theorem flushed_5 (t : Fin cfg0.N) :
    (dat0 V c).flushed 5 t = ((cfg0.win 5).blk t).view.read (Elt Ideal) (result5 V c) := by
  have ht := point_lt t
  have hi := (indices t).2.2.1
  have hemb : ∀ (r : Fin 200) (h : Fin 1), ((cfg0.win 5).blk t).view.emb (ix2 r h)
      = (ix2 (⟨200 * t.val + r.val, by omega⟩ : Fin 10000) h : S10000x1.Idx) := fun r h => by
    funext d; apply Fin.ext
    match d with
    | ⟨0, _⟩ => show win0_5.index t 0 * 200 + 1 * r.val = 200 * t.val + r.val; rw [hi.1]; omega
    | ⟨1, _⟩ => show win0_5.index t 1 * 1 + 1 * h.val = h.val; rw [hi.2]; omega
  have hread : ∀ (r : Fin 200) (h : Fin 1), ((cfg0.win 5).blk t).view.read (Elt Ideal) (result5 V c) (ix2 r h)
      = result5 V c (ix2 (⟨200 * t.val + r.val, by omega⟩ : Fin 10000) h) := fun r h =>
    (View.read_apply _ _).trans (congrArg (result5 V c) (hemb r h))
  show (cfg0.win 5).cut (grid0.coords t) ((dat0 V c).after 5 t) = _
  rw [after_5]
  refine funext fun (j : S200x1.Idx) => ?_
  rw [eq_ix2 j]
  exact (pay3_entry V c t (j 0) (j 1)).trans (hread (j 0) (j 1)).symm

/-- After the last point the array of the row sums is that one. -/
theorem final5 : (dat0 V c).arrAt 5 cfg0.N = result5 V c :=
  (dat0 V c).arrAt_eq_of_cover 5 (result5 V c) (fun t _ => flushed_5 V c t) fun (i : S10000x1.Idx) => by
    have h0 : (i 0 : Nat) < 10000 := (i 0).isLt
    have h1 : (i 1 : Nat) < 1 := (i 1).isLt
    let t : Fin grid0.N := ⟨(i 0 : Nat) / 200, by rw [show grid0.N = 50 from N_0]; omega⟩
    have hi := (indices t).2.2.1
    refine ⟨t, flush0_5 t, ?_⟩
    show i ∈ ((View.whole main_v1_1).slice (win0_5.rect t)).set
    rw [View.set_slice_whole, Rect.mem_set_unit]
    intro a
    match a with
    | ⟨0, _⟩ => show win0_5.index t 0 * 200 ≤ (i 0 : Nat) ∧ (i 0 : Nat) < win0_5.index t 0 * 200 + 200
                rw [hi.1]; show (i 0 : Nat) / 200 * 200 ≤ _ ∧ _ < (i 0 : Nat) / 200 * 200 + 200; omega
    | ⟨1, _⟩ => show win0_5.index t 1 * 1 ≤ (i 1 : Nat) ∧ (i 1 : Nat) < win0_5.index t 1 * 1 + 1
                rw [hi.2]; omega

/-- The last point writes back the column sums whole. -/
theorem flushed_6 (t : Fin cfg0.N) (hf : (cfg0.win 6).flush t = true) :
    (dat0 V c).flushed 6 t = ((cfg0.win 6).blk t).view.read (Elt Ideal) (result6 V c) := by
  have ht := point_lt t
  have hl : t.val + 1 = 50 := by have := (flush0_6 t).mp hf; omega
  have hi := (indices t).2.2.2.1
  have hemb : ∀ (r : Fin 2) (h : Fin 10000), ((cfg0.win 6).blk t).view.emb (ix2 r h) = (ix2 r h : S2x10000.Idx) := fun r h => by
    funext d; apply Fin.ext
    match d with
    | ⟨0, _⟩ => show win0_6.index t 0 * 2 + 1 * r.val = r.val; rw [hi.1]; omega
    | ⟨1, _⟩ => show win0_6.index t 1 * 10000 + 1 * h.val = h.val; rw [hi.2, Nat.zero_mul, Nat.zero_add, Nat.one_mul]
  have hread : ∀ (r : Fin 2) (h : Fin 10000), ((cfg0.win 6).blk t).view.read (Elt Ideal) (result6 V c) (ix2 r h)
      = result6 V c (ix2 r h) := fun r h => (View.read_apply _ _).trans (congrArg (result6 V c) (hemb r h))
  have hsum : ∀ (r : Fin 2) (h : Fin 10000), (outsAt0 V c t.val t.isLt).2.2.1 (ix2 r h) = result6 V c (ix2 r h) := fun r h => by
    rw [sums_6 V c r h t.val t.isLt, hl, sum_rowsOf]
    rfl
  show (cfg0.win 6).cut (grid0.coords t) ((dat0 V c).after 6 t) = _
  rw [after0_6]
  refine funext fun (j : S2x10000.Idx) => ?_
  rw [eq_ix2 j]
  exact (hsum (j 0) (j 1)).trans (hread (j 0) (j 1)).symm

/-- After the last point the array of the column sums is that one. -/
theorem final6 : (dat0 V c).arrAt 6 cfg0.N = result6 V c :=
  (dat0 V c).arrAt_eq_of_cover 6 (result6 V c) (flushed_6 V c) fun (i : S2x10000.Idx) => by
    have h0 : (i 0 : Nat) < 2 := (i 0).isLt
    have h1 : (i 1 : Nat) < 10000 := (i 1).isLt
    let t : Fin grid0.N := ⟨49, lt_of_lt_of_eq (by omega : 49 < 50) N_0.symm⟩
    have hi := (indices t).2.2.2.1
    refine ⟨t, (flush0_6 t).mpr rfl, ?_⟩
    show i ∈ ((View.whole main_v1_2).slice (win0_6.rect t)).set
    rw [View.set_slice_whole, Rect.mem_set_unit]
    intro a
    match a with
    | ⟨0, _⟩ => show win0_6.index t 0 * 2 ≤ (i 0 : Nat) ∧ (i 0 : Nat) < win0_6.index t 0 * 2 + 2
                rw [hi.1]; omega
    | ⟨1, _⟩ => show win0_6.index t 1 * 10000 ≤ (i 1 : Nat) ∧ (i 1 : Nat) < win0_6.index t 1 * 10000 + 10000
                rw [hi.2]; omega

/-- The last point writes back the feature sums whole. -/
theorem flushed_7 (t : Fin cfg0.N) (hf : (cfg0.win 7).flush t = true) :
    (dat0 V c).flushed 7 t = ((cfg0.win 7).blk t).view.read (Elt Ideal) (result7 V c) := by
  have ht := point_lt t
  have hl : t.val + 1 = 50 := by have := (flush0_7 t).mp hf; omega
  have hi := (indices t).2.2.2.2.1
  have hemb : ∀ (r : Fin 128) (h : Fin 10240), ((cfg0.win 7).blk t).view.emb (ix2 r h) = (ix2 r h : S128x10240.Idx) := fun r h => by
    funext d; apply Fin.ext
    match d with
    | ⟨0, _⟩ => show win0_7.index t 0 * 128 + 1 * r.val = r.val; rw [hi.1]; omega
    | ⟨1, _⟩ => show win0_7.index t 1 * 10240 + 1 * h.val = h.val; rw [hi.2, Nat.zero_mul, Nat.zero_add, Nat.one_mul]
  have hread : ∀ (r : Fin 128) (h : Fin 10240), ((cfg0.win 7).blk t).view.read (Elt Ideal) (result7 V c) (ix2 r h)
      = result7 V c (ix2 r h) := fun r h => (View.read_apply _ _).trans (congrArg (result7 V c) (hemb r h))
  have hsum : ∀ (r : Fin 128) (h : Fin 10240), (outsAt0 V c t.val t.isLt).2.2.2.1 (ix2 r h) = result7 V c (ix2 r h) := fun r h => by
    rw [sums_7 V c r h t.val t.isLt, hl, sum_rowsOf]
    rfl
  show (cfg0.win 7).cut (grid0.coords t) ((dat0 V c).after 7 t) = _
  rw [after0_7]
  refine funext fun (j : S128x10240.Idx) => ?_
  rw [eq_ix2 j]
  exact (hsum (j 0) (j 1)).trans (hread (j 0) (j 1)).symm

/-- After the last point the array of the feature sums is that one. -/
theorem final7 : (dat0 V c).arrAt 7 cfg0.N = result7 V c :=
  (dat0 V c).arrAt_eq_of_cover 7 (result7 V c) (flushed_7 V c) fun (i : S128x10240.Idx) => by
    have h0 : (i 0 : Nat) < 128 := (i 0).isLt
    have h1 : (i 1 : Nat) < 10240 := (i 1).isLt
    let t : Fin grid0.N := ⟨49, lt_of_lt_of_eq (by omega : 49 < 50) N_0.symm⟩
    have hi := (indices t).2.2.2.2.1
    refine ⟨t, (flush0_7 t).mpr rfl, ?_⟩
    show i ∈ ((View.whole main_v1_3).slice (win0_7.rect t)).set
    rw [View.set_slice_whole, Rect.mem_set_unit]
    intro a
    match a with
    | ⟨0, _⟩ => show win0_7.index t 0 * 128 ≤ (i 0 : Nat) ∧ (i 0 : Nat) < win0_7.index t 0 * 128 + 128
                rw [hi.1]; omega
    | ⟨1, _⟩ => show win0_7.index t 1 * 10240 ≤ (i 1 : Nat) ∧ (i 1 : Nat) < win0_7.index t 1 * 10240 + 10240
                rw [hi.2]; omega

/-- What a point writes back of the packed incidence is the array's block there. -/
theorem flushed_8 (t : Fin cfg0.N) :
    (dat0 V c).flushed 8 t = ((cfg0.win 8).blk t).view.read (Elt Ideal) (result8 V c) := by
  have ht := point_lt t
  have hi := (indices t).2.2.2.2.2
  have hemb : ∀ (a : Fin 25) (b : Fin 8) (e : Fin 10240), ((cfg0.win 8).blk t).view.emb (ix3 a b e)
      = (ix3 (⟨25 * t.val + a.val, by omega⟩ : Fin 1250) b e : S1250x8x10240.Idx) := fun a b e => by
    funext d; apply Fin.ext
    match d with
    | ⟨0, _⟩ => show win0_8.index t 0 * 25 + 1 * a.val = 25 * t.val + a.val; rw [hi.1]; omega
    | ⟨1, _⟩ => show win0_8.index t 1 * 8 + 1 * b.val = b.val; rw [hi.2.1]; omega
    | ⟨2, _⟩ => show win0_8.index t 2 * 10240 + 1 * e.val = e.val; rw [hi.2.2]; omega
  have hread : ∀ (a : Fin 25) (b : Fin 8) (e : Fin 10240), ((cfg0.win 8).blk t).view.read (Elt Ideal) (result8 V c) (ix3 a b e)
      = result8 V c (ix3 (⟨25 * t.val + a.val, by omega⟩ : Fin 1250) b e) := fun a b e =>
    (View.read_apply _ _).trans (congrArg (result8 V c) (hemb a b e))
  have hrow : ∀ (a : Fin 25) (b : Fin 8) (e : Fin 10240), k0_pay8 (F := Ideal) (iblk0 V c 1 t) (ix3 a b e)
      = result8 V c (ix3 (⟨25 * t.val + a.val, by omega⟩ : Fin 1250) b e) := fun a b e => by
    rw [pay8_entry]
    show _ = Ideal.fptosi 8 (padded (inc V c ⟨8 * (25 * t.val + a.val) + b.val, _⟩) e)
    congr 4
    omega
  show (cfg0.win 8).cut (grid0.coords t) ((dat0 V c).after 8 t) = _
  rw [after_8]
  refine funext fun (j : S25x8x10240.Idx) => ?_
  rw [eq_ix3 j]
  exact (hrow (j 0) (j 1) (j 2)).trans (hread (j 0) (j 1) (j 2)).symm

/-- After the last point the array of the packed incidence is that one. -/
theorem final8 : (dat0 V c).arrAt 8 cfg0.N = result8 V c :=
  (dat0 V c).arrAt_eq_of_cover 8 (result8 V c) (fun t _ => flushed_8 V c t) fun (i : S1250x8x10240.Idx) => by
    have h0 : (i 0 : Nat) < 1250 := (i 0).isLt
    have h1 : (i 1 : Nat) < 8 := (i 1).isLt
    have h2 : (i 2 : Nat) < 10240 := (i 2).isLt
    let t : Fin grid0.N := ⟨(i 0 : Nat) / 25, by rw [show grid0.N = 50 from N_0]; omega⟩
    have hi := (indices t).2.2.2.2.2
    refine ⟨t, flush0_8 t, ?_⟩
    show i ∈ ((View.whole main_v1_4).slice (win0_8.rect t)).set
    rw [View.set_slice_whole, Rect.mem_set_unit]
    intro a
    match a with
    | ⟨0, _⟩ => show win0_8.index t 0 * 25 ≤ (i 0 : Nat) ∧ (i 0 : Nat) < win0_8.index t 0 * 25 + 25
                rw [hi.1]; show (i 0 : Nat) / 25 * 25 ≤ _ ∧ _ < (i 0 : Nat) / 25 * 25 + 25; omega
    | ⟨1, _⟩ => show win0_8.index t 1 * 8 ≤ (i 1 : Nat) ∧ (i 1 : Nat) < win0_8.index t 1 * 8 + 8
                rw [hi.2.1]; omega
    | ⟨2, _⟩ => show win0_8.index t 2 * 10240 ≤ (i 2 : Nat) ∧ (i 2 : Nat) < win0_8.index t 2 * 10240 + 10240
                rw [hi.2.2]; omega

end Cert.Proof.Region0

end
-- ==== Proof.Scatter.lean ====
/- The scale row's scatter: one row of 10000 entries written at the front of a row of 10240. -/
module

public import proofs.«01_k».proof.Proof.Gen.KernelIdeal.Launch
public import Idealize.ShloMosaic.Lib.Routing.OpsSet

@[expose] public section

set_option maxRecDepth 16384

namespace Cert.Proof

open Idealize.ShloMosaic Idealize.ShloMosaic.ValueIdx
open Cert.KernelIdeal Cert.KernelIdeal.Gen

/-- At the start index zero, the update's entry lands at its own coordinates. -/
theorem lands_front (idx : IVec S1 32) (hidx : ∀ k, (idx k).toInt = 0) (j : S1x10000.Idx) (i : S1x10240.Idx)
    (h : scatter_S1x10240_S1_S1x10000_01_n_1_0.resultIdx? j idx = some i) : ∀ a : Fin 2, (i a).val = (j a).val := by
  have hs : ∀ a, scatter_S1x10240_S1_S1x10000_01_n_1_0.start j idx a = 0 := fun a => by
    unfold ScatterDims.start
    split
    · exact hidx _
    · rfl
  have hw : ∀ a : Fin 2, scatter_S1x10240_S1_S1x10000_01_n_1_0.window j a = (j a).val := fun a => by
    fin_cases a <;> rfl
  intro a
  unfold ScatterDims.resultIdx? at h
  split at h
  · have hi := congrFun (Option.some.inj h) a
    rw [← hi]
    show (scatter_S1x10240_S1_S1x10000_01_n_1_0.start j idx a + scatter_S1x10240_S1_S1x10000_01_n_1_0.window j a).toNat = _
    rw [hs, hw]
    omega
  · exact absurd h nofun

/-- Every update's entry lands somewhere. -/
theorem lands_some (idx : IVec S1 32) (hidx : ∀ k, (idx k).toInt = 0) (e : Fin 10000) :
    scatter_S1x10240_S1_S1x10000_01_n_1_0.resultIdx? (ix2 0 e) idx = some (ix2 0 ⟨e.val, by omega⟩) := by
  have hs : ∀ a, scatter_S1x10240_S1_S1x10000_01_n_1_0.start (ix2 0 e) idx a = 0 := fun a => by
    unfold ScatterDims.start
    split
    · exact hidx _
    · rfl
  have hw : ∀ a : Fin 2, scatter_S1x10240_S1_S1x10000_01_n_1_0.window (ix2 0 e) a = ((ix2 0 e : S1x10000.Idx) a).val := fun a => by
    fin_cases a <;> rfl
  have hb : ∀ a : Fin 2, ((ix2 0 e : S1x10000.Idx) a).val < S1x10240.size a := fun a => by
    match a with
    | ⟨0, _⟩ => exact Nat.one_pos
    | ⟨1, _⟩ => exact lt_trans e.isLt (by decide : 10000 < 10240)
  unfold ScatterDims.resultIdx?
  rw [dif_pos fun a => by have := hb a; rw [hs, hw]; omega]
  congr 1
  funext a
  apply Fin.ext
  show (scatter_S1x10240_S1_S1x10000_01_n_1_0.start (ix2 0 e) idx a + scatter_S1x10240_S1_S1x10000_01_n_1_0.window (ix2 0 e) a).toNat = _
  rw [hs, hw]
  match a with
  | ⟨0, _⟩ => rfl
  | ⟨1, _⟩ => show ((0 : Int) + (e.val : Int)).toNat = e.val; omega

/-- The scatter's result at a column below 10000 is the update's entry there. -/
theorem scatter_front {α : Type} (x : S1x10240.Idx → α) (idx : IVec S1 32) (hidx : ∀ k, (idx k).toInt = 0) (upd : S1x10000.Idx → α) (e : Fin 10000) :
    Host.scatter scatter_S1x10240_S1_S1x10000_01_n_1_0 (fun _ b => b) x idx upd (ix2 0 ⟨e.val, by omega⟩) = upd (ix2 0 e) := by
  refine Routing.scatter_set_hit _ x idx upd _ _ (fun j hj => ?_) (ix2 0 e) (lands_some idx hidx e)
  have h := lands_front idx hidx j _ hj
  congr 1
  funext a
  apply Fin.ext
  match a with
  | ⟨0, _⟩ => exact (h 0).symm
  | ⟨1, _⟩ => exact (h 1).symm

end Cert.Proof
-- ==== Proof.Payloads.lean ====
/- What one block of regions 1, 2 and 3 computes, entry by entry, over the extended reals. -/
module

public import proofs.«01_k».proof.Proof.Gen.KernelIdeal.Skeleton
public import proofs.«01_k».proof.Proof.Dots
public import Idealize.ShloMosaic.Lib.Pipeline.Value

@[expose] public section

set_option maxRecDepth 16384

noncomputable section

namespace Cert.Proof

open Idealize.ShloMosaic Idealize.ShloMosaic.ValueIdx
open Cert.KernelIdeal Cert.KernelIdeal.Gen
open scoped BigOperators

/-- Half the aggregated message plus half the skip connection, each half the f32 constant 0.5. -/
def blend (a x : EReal) : EReal :=
  Ideal.ofBits .f32 0x3F000000#32 * a + Ideal.ofBits .f32 0x3F000000#32 * x

/-- One entry of a layer's output from its blended row: the identity part, the linear part and the relu. -/
def layerOut (c₁ c₂ : EReal) (xc : Fin 128 → EReal) (W : Fin 128 → Fin 128 → EReal) (h : Fin 128) : EReal :=
  max (c₁ * xc h + c₂ * ∑ k, xc k * W h k) 0

/-- A packed entry as a number. -/
def unpack (b : BitVec 8) : EReal := ((b.toInt : ℝ) : EReal)

/-- A value times a packed entry. -/
def weigh (a : EReal) (b : BitVec 8) : EReal := a * unpack b

/-- The rows of eight of a packed block, laid flat, at (r, e). -/
theorem flat_apply {n : ℕ} (v : (⟨3, ![n, 8, 10240]⟩ : Shape).Idx → BitVec 8)
    (h : Shape.ShapeCasts ⟨3, ![n, 8, 10240]⟩ ⟨2, ![8 * n, 10240]⟩) (r : Fin (8 * n)) (e : Fin 10240) :
    shapeCast ⟨2, ![8 * n, 10240]⟩ v h (ix2 r e)
      = v (ix3 ⟨r.val / 8, by omega⟩ ⟨r.val % 8, by omega⟩ e) := by
  refine shapeCast_apply v h _ _ ?_
  rw [Shape.rowMajor_val_three, Shape.rowMajor_val_two]
  show (r.val / 8 * 8 + r.val % 8) * 10240 + e.val = r.val * 10240 + e.val
  omega

/-- The same for the packed blocks of 512 columns. -/
theorem flat_apply_cols {n : ℕ} (v : (⟨3, ![n, 8, 512]⟩ : Shape).Idx → BitVec 8)
    (h : Shape.ShapeCasts ⟨3, ![n, 8, 512]⟩ ⟨2, ![8 * n, 512]⟩) (r : Fin (8 * n)) (e : Fin 512) :
    shapeCast ⟨2, ![8 * n, 512]⟩ v h (ix2 r e)
      = v (ix3 ⟨r.val / 8, by omega⟩ ⟨r.val % 8, by omega⟩ e) := by
  refine shapeCast_apply v h _ _ ?_
  rw [Shape.rowMajor_val_three, Shape.rowMajor_val_two]
  show (r.val / 8 * 8 + r.val % 8) * 512 + e.val = r.val * 512 + e.val
  omega

/-- A column broadcast along the lanes. -/
theorem column_apply (v : S1000x1.Idx → EReal) (h : S1000x1.Broadcasts S1000x128) (r : Fin 1000) (k : Fin 128) :
    broadcastTo S1000x128 v h (ix2 r k) = v (ix2 r 0) := by
  refine broadcastTo_apply v h _ _ fun a => ?_
  match a with
  | ⟨0, _⟩ => rfl
  | ⟨1, _⟩ => rfl

/-- The blended block of a node pass. -/
def xcBlock (v0 : Vec Ideal S125x8x10240 .i8) (v4 : Vec Ideal S10240x128 .bf16) (v7 : Vec Ideal S1000x1 .f32)
    (v13 : Vec Ideal S1000x128 .f32) : FVec Ideal S1000x128 .f32 :=
  addf (mulf (broadcast S1000x128 (Scalar.ofBits .f32 0x3F000000#32))
      (mulf (FloatOps.matmul (φ₁ := .bf16) (φ₂ := .bf16) (DotDims.plain 1000 10240 128) none
          (sitofp .bf16 (shapeCast S1000x10240 v0 shapeCasts_S125x8x10240_S1000x10240) : FVec Ideal S1000x10240 .bf16) v4 (constant S1000x128 .f32 0x00000000#32))
        (broadcastTo S1000x128 v7 broadcasts_S1000x1_S1000x128)))
    (mulf (broadcast S1000x128 (Scalar.ofBits .f32 0x3F000000#32)) v13)

/-- The blended block at an entry: the packed row against the column, scaled by the row's factor, blended with the skip. -/
theorem xcBlock_apply (v0 : Vec Ideal S125x8x10240 .i8) (v4 : Vec Ideal S10240x128 .bf16) (v7 : Vec Ideal S1000x1 .f32)
    (v13 : Vec Ideal S1000x128 .f32) (r : Fin 1000) (k : Fin 128) :
    xcBlock v0 v4 v7 v13 (ix2 r k)
      = blend ((∑ e : Fin 10240, unpack (v0 (ix3 ⟨r.val / 8, by omega⟩ ⟨r.val % 8, by omega⟩ e)) * v4 (ix2 e k)) * v7 (ix2 r 0))
          (v13 (ix2 r k)) := by
  unfold xcBlock
  simp only [addf_apply, mulf_apply, column_apply]
  rw [matmul_rows]
  have hs : ∀ e : Fin 10240,
      (sitofp .bf16 (shapeCast S1000x10240 v0 shapeCasts_S125x8x10240_S1000x10240) : FVec Ideal S1000x10240 .bf16) (ix2 r e)
        = unpack (v0 (ix3 ⟨r.val / 8, by omega⟩ ⟨r.val % 8, by omega⟩ e)) := fun e => by
    rw [sitofp_apply]
    exact congrArg unpack (flat_apply (n := 125) v0 shapeCasts_S125x8x10240_S1000x10240 r e)
  simp only [hs]
  rfl

/-- A node pass's block: the layer's output of the blended block. -/
def passBlock (b₁ b₂ : BitVec 32) (xc : FVec Ideal S1000x128 .f32) (v20 : Vec Ideal S128x128 .f32) : FVec Ideal S1000x128 .f32 :=
  maximumf (addf (mulf (broadcast S1000x128 (Scalar.ofBits .f32 b₁)) xc)
    (mulf (broadcast S1000x128 (Scalar.ofBits .f32 b₂))
      (FloatOps.matmul (φ₁ := .f32) (φ₂ := .f32) (DotDims.transposedRhs 1000 128 128) none xc v20 (constant S1000x128 .f32 0x00000000#32))))
    (broadcast S1000x128 (Scalar.ofBits .f32 0x00000000#32))

/-- It at an entry. -/
theorem passBlock_apply (b₁ b₂ : BitVec 32) (xc : FVec Ideal S1000x128 .f32) (v20 : Vec Ideal S128x128 .f32) (r : Fin 1000) (h : Fin 128) :
    passBlock b₁ b₂ xc v20 (ix2 r h)
      = layerOut (Ideal.ofBits .f32 b₁) (Ideal.ofBits .f32 b₂) (fun k => xc (ix2 r k)) (fun h k => v20 (ix2 h k)) h := by
  unfold passBlock
  simp only [addf_apply, mulf_apply, maximumf_apply]
  rw [matmul_lastAxes]
  unfold layerOut
  exact congrArg (max _) Ideal.ofBits_zero_f32

/-- Region 1's block is that pass with the first layer's constants … -/
theorem k1_pay1_eq (v0 : Vec Ideal S125x8x10240 .i8) (v4 : Vec Ideal S10240x128 .bf16) (v7 : Vec Ideal S1000x1 .f32)
    (v13 : Vec Ideal S1000x128 .f32) (v20 : Vec Ideal S128x128 .f32) :
    k1_pay1 v0 v4 v7 v13 v20 = passBlock 0x3F183370#32 0x3ECF991F#32 (xcBlock v0 v4 v7 v13) v20 := by
  unfold k1_pay1
  simp only [shapeCast_self]
  rfl

/-- … and region 3's the same with the second layer's. -/
theorem k3_pay1_eq (v0 : Vec Ideal S125x8x10240 .i8) (v4 : Vec Ideal S10240x128 .bf16) (v7 : Vec Ideal S1000x1 .f32)
    (v13 : Vec Ideal S1000x128 .f32) (v20 : Vec Ideal S128x128 .f32) :
    k3_pay1 v0 v4 v7 v13 v20 = passBlock 0x3F46E010#32 0x3E647FBE#32 (xcBlock v0 v4 v7 v13) v20 := by
  unfold k3_pay1
  simp only [shapeCast_self]
  rfl

/-- One entry of a node pass from its five operands, region 1's constants or region 3's. -/
def passEntry (b₁ b₂ : BitVec 32) (p : Fin 10240 → BitVec 8) (z : Fin 10240 → Fin 128 → EReal) (s : EReal) (x : Fin 128 → EReal)
    (W : Fin 128 → Fin 128 → EReal) (h : Fin 128) : EReal :=
  layerOut (Ideal.ofBits .f32 b₁) (Ideal.ofBits .f32 b₂) (fun k => blend ((∑ e, unpack (p e) * z e k) * s) (x k)) W h

/-- Region 1's block at an entry. -/
theorem k1_pay1_apply (v0 : Vec Ideal S125x8x10240 .i8) (v4 : Vec Ideal S10240x128 .bf16) (v7 : Vec Ideal S1000x1 .f32)
    (v13 : Vec Ideal S1000x128 .f32) (v20 : Vec Ideal S128x128 .f32) (r : Fin 1000) (h : Fin 128) :
    k1_pay1 v0 v4 v7 v13 v20 (ix2 r h)
      = passEntry 0x3F183370#32 0x3ECF991F#32 (fun e => v0 (ix3 ⟨r.val / 8, by omega⟩ ⟨r.val % 8, by omega⟩ e))
          (fun e k => v4 (ix2 e k)) (v7 (ix2 r 0)) (fun k => v13 (ix2 r k)) (fun h k => v20 (ix2 h k)) h := by
  rw [k1_pay1_eq, passBlock_apply]
  simp only [xcBlock_apply]
  rfl

/-- Region 3's block at an entry. -/
theorem k3_pay1_apply (v0 : Vec Ideal S125x8x10240 .i8) (v4 : Vec Ideal S10240x128 .bf16) (v7 : Vec Ideal S1000x1 .f32)
    (v13 : Vec Ideal S1000x128 .f32) (v20 : Vec Ideal S128x128 .f32) (r : Fin 1000) (h : Fin 128) :
    k3_pay1 v0 v4 v7 v13 v20 (ix2 r h)
      = passEntry 0x3F46E010#32 0x3E647FBE#32 (fun e => v0 (ix3 ⟨r.val / 8, by omega⟩ ⟨r.val % 8, by omega⟩ e))
          (fun e k => v4 (ix2 e k)) (v7 (ix2 r 0)) (fun k => v13 (ix2 r k)) (fun h k => v20 (ix2 h k)) h := by
  rw [k3_pay1_eq, passBlock_apply]
  simp only [xcBlock_apply]
  rfl

/-- Region 2's block at an entry: the features' row against the packed column. -/
theorem k2_pay1_apply (v0 : Vec Ideal S1250x8x512 .i8) (v4 : Vec Ideal S128x10000 .bf16) (h : Fin 128) (e : Fin 512) :
    k2_pay1 v0 v4 (ix2 h e)
      = ∑ i : Fin 10000, v4 (ix2 h i) * unpack (v0 (ix3 ⟨i.val / 8, by omega⟩ ⟨i.val % 8, by omega⟩ e)) := by
  unfold k2_pay1
  simp only [shapeCast_self]
  refine (matmul_rows (M := 128) (K := 10000) (N := 512) none v4
    (sitofp .bf16 (shapeCast S10000x512 v0 shapeCasts_S1250x8x512_S10000x512) : FVec Ideal S10000x512 .bf16) h e).trans ?_
  refine Finset.sum_congr rfl fun i _ => congrArg (v4 (ix2 h i) * ·) ?_
  rw [sitofp_apply]
  exact congrArg unpack (flat_apply_cols (n := 1250) v0 shapeCasts_S1250x8x512_S10000x512 i e)

end Cert.Proof

end
-- ==== Proof.Host.lean ====
/- The host operations between the regions: what each buffer a region or a result reads holds, entry by entry, from the
   contents each stretch of them starts on. -/
module

public import proofs.«01_k».proof.Proof.Scatter
public import proofs.«01_k».proof.Proof.Payloads
public import Idealize.ShloMosaic.Lib.StableHlo.Run
public import Idealize.ShloMosaic.Lib.Pipeline.Value

@[expose] public section

set_option maxRecDepth 16384

noncomputable section

namespace Cert.Proof.Host

open Idealize.ShloMosaic Idealize.ShloMosaic.ValueIdx Idealize.ShloMosaic.StableHlo
open Cert.KernelIdeal Cert.KernelIdeal.Gen Cert.Proof

variable (W : Valuation τ sig (Elt Ideal))

/-- A buffer's contents over a valuation. -/
abbrev at' (r : Ref sig .tc) : r.ty.Contents (Elt Ideal) := W (Proc.devRef .tc r)

/-- A hyperedge's scale from its two column sums: the size and the weighted size. -/
def scale (esz edn : EReal) : EReal := Ideal.div (Ideal.rsqrt (Ideal.div edn esz)) esz

/-- The scale row as the host operations compose it from the column sums' array. -/
def scaleRow (d : FVec Ideal S2x10000 .f32) : FVec Ideal S1x10240 .f32 :=
  Host.scatter scatter_S1x10240_S1_S1x10000_01_n_1_0 (fun _ b => b)
    (broadcastInDim S1x10240 ![] bcast_S_S1x10240 (constant S_ .f32 0x00000000#32))
    (broadcastInDim S1 ![] bcast_S_S1 (constantI S_ 32 0#32))
    (Host.divf (Host.rsqrt (Host.divf (extractStridedSlice S1x10000 ![1, 0] d slices_S2x10000_S1x10000_1_0)
      (extractStridedSlice S1x10000 ![0, 0] d slices_S2x10000_S1x10000_0_0)))
      (extractStridedSlice S1x10000 ![0, 0] d slices_S2x10000_S1x10000_0_0))

/-- The first row of the column sums, sliced. -/
theorem slice0_apply (d : FVec Ideal S2x10000 .f32) (e : Fin 10000) :
    extractStridedSlice S1x10000 ![0, 0] d slices_S2x10000_S1x10000_0_0 (ix2 0 e) = d (ix2 0 e) :=
  extractStridedSlice_apply _ d _ _ _ fun a => match a with
    | ⟨0, _⟩ => rfl
    | ⟨1, _⟩ => by show e.val = 0 + e.val; omega

/-- The second row of the column sums, sliced. -/
theorem slice1_apply (d : FVec Ideal S2x10000 .f32) (e : Fin 10000) :
    extractStridedSlice S1x10000 ![1, 0] d slices_S2x10000_S1x10000_1_0 (ix2 0 e) = d (ix2 1 e) :=
  extractStridedSlice_apply _ d _ _ _ fun a => match a with
    | ⟨0, _⟩ => rfl
    | ⟨1, _⟩ => by show e.val = 0 + e.val; omega

/-- The scale row at a hyperedge. -/
theorem scaleRow_apply (d : FVec Ideal S2x10000 .f32) (e : Fin 10000) :
    scaleRow d (ix2 0 ⟨e.val, by omega⟩) = scale (d (ix2 0 e)) (d (ix2 1 e)) := by
  unfold scaleRow
  refine (scatter_front _ _ (fun k => rfl) _ e).trans ?_
  show Ideal.div (Ideal.rsqrt (Ideal.div (extractStridedSlice S1x10000 ![1, 0] d slices_S2x10000_S1x10000_1_0 (ix2 0 e))
    (extractStridedSlice S1x10000 ![0, 0] d slices_S2x10000_S1x10000_0_0 (ix2 0 e))))
    (extractStridedSlice S1x10000 ![0, 0] d slices_S2x10000_S1x10000_0_0 (ix2 0 e)) = _
  rw [slice0_apply, slice1_apply]
  rfl

/-- Features-by-hyperedges scaled by the row and transposed, as the host operations compose them. -/
def scaled (x : FVec Ideal S128x10240 .f32) (s : FVec Ideal S1x10240 .f32) : FVec Ideal S10240x128 .bf16 :=
  truncf .bf16 (transpose S10240x128 [1, 0] (mulf x (broadcastInDim S128x10240 ![0, 1] bcast_S1x10240_S128x10240_0_1 s))
    transposes_S128x10240_S10240x128_1_0) bitsLt_bf16_f32

/-- The scaled features at an entry. -/
theorem scaled_apply (x : FVec Ideal S128x10240 .f32) (s : FVec Ideal S1x10240 .f32) (e : Fin 10240) (h : Fin 128) :
    scaled x s (ix2 e h) = (x (ix2 h e) : EReal) * s (ix2 0 e) := by
  unfold scaled
  rw [truncf_apply]
  refine (transpose_apply [1, 0] _ transposes_S128x10240_S10240x128_1_0 (ix2 e h) (ix2 h e) fun a => ?_).trans ?_
  · match a with
    | ⟨0, _⟩ => rfl
    | ⟨1, _⟩ => rfl
  · rw [mulf_apply]
    refine congrArg ((x (ix2 h e) : EReal) * ·) ?_
    exact broadcastInDim_apply _ _ s _ (ix2 0 e) fun a => match a with
      | ⟨0, _⟩ => rfl
      | ⟨1, _⟩ => rfl

/-- After the first stretch, the bias as a row. -/
theorem first_bias : StableHlo.after hostOps0 W (Proc.devRef .tc main_v0) = shapeCast S1x128 (at' W main_arg3) shapeCasts_S128_S1x128 := by
  after_results
  rfl

/-- After the second stretch, the scale row. -/
theorem second_scale : StableHlo.after hostOps1 W (Proc.devRef .tc main_v9) = scaleRow (at' W main_v1_2) := by
  after_results_simp
  rfl

/-- After the second stretch, the first pass's scaled features. -/
theorem second_scaled : StableHlo.after hostOps1 W (Proc.devRef .tc main_v13) = scaled (at' W main_v1_3) (scaleRow (at' W main_v1_2)) := by
  after_results_simp
  rfl

/-- After the second stretch, the hyperedge sizes. -/
theorem second_size : StableHlo.after hostOps1 W (Proc.devRef .tc main_v2)
    = extractStridedSlice S1x10000 ![0, 0] (at' W main_v1_2) slices_S2x10000_S1x10000_0_0 := by
  after_results_simp

/-- After the second stretch, the nodes' factors. -/
theorem second_factor : StableHlo.after hostOps1 W (Proc.devRef .tc main_v14) = Host.rsqrt (F := Ideal) (φ := .f32) (at' W main_v1_1) := by
  after_results_simp

/-- After the third stretch, the first pass's output transposed. -/
theorem third_features : StableHlo.after hostOps2 W (Proc.devRef .tc main_v17)
    = truncf (F := Ideal) (φ := .f32) .bf16 (transpose S128x10000 [1, 0] (at' W main_v15) transposes_S10000x128_S128x10000_1_0) bitsLt_bf16_f32 := by
  after_results_simp

/-- After the fourth stretch, the second result. -/
theorem fourth_mean : StableHlo.after hostOps3 W (Proc.devRef .tc main_v22)
    = transpose S10000x128 [1, 0] (Host.divf (F := Ideal) (φ := .f32) (extractStridedSlice S128x10000 ![0, 0] (at' W main_v18) slices_S128x10240_S128x10000_0_0)
        (broadcastInDim S128x10000 ![0, 1] bcast_S1x10000_S128x10000_0_1 (at' W main_v2))) transposes_S128x10000_S10000x128_1_0 := by
  after_results_simp

/-- After the fourth stretch, the second pass's scaled features. -/
theorem fourth_scaled : StableHlo.after hostOps3 W (Proc.devRef .tc main_v26) = scaled (at' W main_v18) (at' W main_v9) := by
  after_results_simp
  rfl

end Cert.Proof.Host

end
-- ==== Proof.Spec.lean ====
/- The network's mathematics over the extended reals: the incidence's degrees and sizes, a hyperedge's mean of its nodes' features,
   and a layer as the reference writes it. -/
module

public import proofs.«01_k».proof.Proof.Payloads
public import proofs.«01_k».proof.Proof.Region0Entries

@[expose] public section

noncomputable section

namespace Cert.Proof

open Idealize.ShloMosaic
open scoped BigOperators

/-- A node's degree: its row's sum. -/
def degree (B : Fin 10000 → Fin 10000 → EReal) (i : Fin 10000) : EReal := ∑ e, B i e

/-- A hyperedge's size: its column's sum. -/
def edgeSize (B : Fin 10000 → Fin 10000 → EReal) (e : Fin 10000) : EReal := ∑ i, B i e

/-- A hyperedge's nodes' degrees, summed. -/
def edgeWeight (B : Fin 10000 → Fin 10000 → EReal) (e : Fin 10000) : EReal := ∑ i, B i e * degree B i

/-- A hyperedge's nodes' features, summed. -/
def edgeSum (B : Fin 10000 → Fin 10000 → EReal) (y : Fin 10000 → Fin 128 → EReal) (e : Fin 10000) (k : Fin 128) : EReal :=
  ∑ i, B i e * y i k

/-- A hyperedge's mean feature. -/
def edgeMean (B : Fin 10000 → Fin 10000 → EReal) (y : Fin 10000 → Fin 128 → EReal) (e : Fin 10000) (k : Fin 128) : EReal :=
  Ideal.div (edgeSum B y e k) (edgeSize B e)

/-- A node's normalised aggregate of its hyperedges' means. -/
def aggregate (B : Fin 10000 → Fin 10000 → EReal) (y : Fin 10000 → Fin 128 → EReal) (i : Fin 10000) (k : Fin 128) : EReal :=
  Ideal.div (∑ e, B i e * Ideal.div (edgeMean B y e k) (Ideal.sqrt (Ideal.div (edgeWeight B e) (edgeSize B e)))) (Ideal.sqrt (degree B i))

/-- A layer's output with its two coefficients, its skip connection and its weights. -/
def layer (c₁ c₂ : EReal) (B : Fin 10000 → Fin 10000 → EReal) (y x : Fin 10000 → Fin 128 → EReal) (W : Fin 128 → Fin 128 → EReal)
    (i : Fin 10000) (h : Fin 128) : EReal :=
  layerOut c₁ c₂ (fun k => blend (aggregate B y i k) (x i k)) W h

/-- The first layer's coefficients, as the program's constants. -/
def first₁ : EReal := Ideal.ofBits .f32 0x3F183370#32
/-- The first layer's second coefficient. -/
def first₂ : EReal := Ideal.ofBits .f32 0x3ECF991F#32
/-- The second layer's coefficients. -/
def second₁ : EReal := Ideal.ofBits .f32 0x3F46E010#32
/-- The second layer's second coefficient. -/
def second₂ : EReal := Ideal.ofBits .f32 0x3E647FBE#32

end Cert.Proof

end
-- ==== Proof.Algebra.lean ====
/- The equation: over a binary incidence without an empty row, the kernel's factored normalisation is the reference's divisions. -/
module

public import proofs.«01_k».proof.Proof.Spec
public import proofs.«01_k».proof.Proof.Host

@[expose] public section

noncomputable section

namespace Cert.Proof

open Idealize.ShloMosaic
open scoped BigOperators

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A binary incidence none of whose rows is empty. -/
structure Incidence (B : Fin 10000 → Fin 10000 → EReal) : Prop where
  /-- Every entry is zero or one. -/
  binary : ∀ i e, B i e = 0 ∨ B i e = 1
  /-- Every row's sum is positive. -/
  occupied : ∀ i, 0 < degree B i

variable {B : Fin 10000 → Fin 10000 → EReal} (hB : Incidence B)
include hB

/-- The entries of a binary incidence are nonnegative reals. -/
theorem Incidence.real : ∃ b : Fin 10000 → Fin 10000 → ℝ, (∀ i e, B i e = (b i e : EReal)) ∧ ∀ i e, 0 ≤ b i e := by
  have h : ∀ i e, ∃ r : ℝ, B i e = (r : EReal) ∧ 0 ≤ r := fun i e => by
    rcases hB.binary i e with h | h
    · exact ⟨0, by rw [h]; rfl, le_rfl⟩
    · exact ⟨1, by rw [h]; rfl, zero_le_one⟩
  choose b hb hn using h
  exact ⟨b, hb, hn⟩

/-- A node's degree is a positive real. -/
theorem Incidence.degree_real (i : Fin 10000) : ∃ d : ℝ, degree B i = (d : EReal) ∧ 0 < d := by
  obtain ⟨b, hb, _⟩ := hB.real
  have h : degree B i = ((∑ e, b i e : ℝ) : EReal) := by
    unfold degree
    rw [coe_sum]
    exact Finset.sum_congr rfl fun e _ => hb i e
  exact ⟨_, h, by have := hB.occupied i; rw [h] at this; exact EReal.coe_pos.mp this⟩

/-- The size of a hyperedge with a node is a positive real. -/
theorem Incidence.size_real (i e : Fin 10000) (h1 : B i e = 1) : ∃ s : ℝ, edgeSize B e = (s : EReal) ∧ 0 < s := by
  obtain ⟨b, hb, hn⟩ := hB.real
  refine ⟨∑ i, b i e, ?_, ?_⟩
  · unfold edgeSize
    rw [coe_sum]
    exact Finset.sum_congr rfl fun i _ => hb i e
  · refine Finset.sum_pos' (fun j _ => hn j e) ⟨i, Finset.mem_univ i, ?_⟩
    have h := hb i e
    rw [h1] at h
    have : b i e = 1 := (EReal.coe_eq_coe_iff.mp (show ((1 : ℝ) : EReal) = (b i e : EReal) from h)).symm
    rw [this]; exact zero_lt_one

/-- The degree sum of a hyperedge with a node is a positive real. -/
theorem Incidence.weight_real (i e : Fin 10000) (h1 : B i e = 1) : ∃ w : ℝ, edgeWeight B e = (w : EReal) ∧ 0 < w := by
  obtain ⟨b, hb, hn⟩ := hB.real
  choose d hd hp using hB.degree_real
  refine ⟨∑ i, b i e * d i, ?_, ?_⟩
  · unfold edgeWeight
    rw [coe_sum]
    exact Finset.sum_congr rfl fun i _ => by rw [hb i e, hd i, EReal.coe_mul]
  · refine Finset.sum_pos' (fun j _ => mul_nonneg (hn j e) (hp j).le) ⟨i, Finset.mem_univ i, ?_⟩
    have h := hb i e
    rw [h1] at h
    have : b i e = 1 := (EReal.coe_eq_coe_iff.mp (show ((1 : ℝ) : EReal) = (b i e : EReal) from h)).symm
    rw [this, one_mul]; exact hp i

omit hB in
/-- At a positive real, dividing by the root is multiplying by the reciprocal root. -/
theorem div_sqrt (x : EReal) (d : ℝ) (hd : 0 < d) : Ideal.div x (Ideal.sqrt (d : EReal)) = x * Ideal.rsqrt (d : EReal) := by
  have hs : Real.sqrt d ≠ 0 := (Real.sqrt_pos.mpr hd).ne'
  rw [Ideal.sqrt_coe, if_neg (not_lt.mpr hd.le), Ideal.rsqrt_coe, if_neg (not_lt.mpr hd.le), if_neg hd.ne', Ideal.div_coe hs, one_div]

omit hB in
/-- At positive reals, the two divisions of a hyperedge's sum are one multiplication by its scale. -/
theorem div_scale (x : EReal) (s w : ℝ) (hs : 0 < s) (hw : 0 < w) :
    Ideal.div (Ideal.div x (s : EReal)) (Ideal.sqrt (Ideal.div (w : EReal) (s : EReal))) = x * Host.scale (s : EReal) (w : EReal) := by
  unfold Host.scale
  have hq : Ideal.div (w : EReal) (s : EReal) = ((w * (1 / s) : ℝ) : EReal) := by rw [Ideal.div_coe hs.ne', EReal.coe_mul]
  rw [hq, div_sqrt _ _ (by positivity), Ideal.div_coe hs.ne', Ideal.div_coe hs.ne', mul_assoc, mul_comm ((1 / s : ℝ) : EReal)]

/-- A term of a node's aggregate: the kernel's scaled sum and the reference's normalised mean agree at every incidence entry. -/
theorem Incidence.term (y : Fin 10000 → Fin 128 → EReal) (i e : Fin 10000) (k : Fin 128) :
    B i e * (edgeSum B y e k * Host.scale (edgeSize B e) (edgeWeight B e))
      = B i e * Ideal.div (edgeMean B y e k) (Ideal.sqrt (Ideal.div (edgeWeight B e) (edgeSize B e))) := by
  rcases hB.binary i e with h | h
  · rw [h, zero_mul, zero_mul]
  · obtain ⟨s, hs, hs0⟩ := hB.size_real i e h
    obtain ⟨w, hw, hw0⟩ := hB.weight_real i e h
    unfold edgeMean
    rw [hs, hw, div_scale _ _ _ hs0 hw0]

/-- A node's aggregate as the kernel computes it is the reference's. -/
theorem Incidence.aggregate_eq (y : Fin 10000 → Fin 128 → EReal) (i : Fin 10000) (k : Fin 128) :
    (∑ e, B i e * (edgeSum B y e k * Host.scale (edgeSize B e) (edgeWeight B e))) * Ideal.rsqrt (degree B i) = aggregate B y i k := by
  obtain ⟨d, hd, hd0⟩ := hB.degree_real i
  unfold aggregate
  rw [hd, div_sqrt _ _ hd0]
  exact congrArg (· * Ideal.rsqrt (d : EReal)) (Finset.sum_congr rfl fun e _ => hB.term y i e k)

/-- A binary entry packed as an eight-bit integer and unpacked is the entry. -/
theorem Incidence.unpack_pack (i e : Fin 10000) : unpack (Ideal.fptosi 8 (B i e)) = B i e := by
  rcases hB.binary i e with h | h
  · rw [h]
    have : Ideal.fptosi 8 0 = 0#8 := by
      unfold Ideal.fptosi
      rw [show (0 : EReal) = ((0 : ℝ) : EReal) from rfl, Ideal.toIntClamped_coe]
      simp
    rw [this]
    simp [unpack]
  · rw [h]
    have : Ideal.fptosi 8 1 = 1#8 := by
      unfold Ideal.fptosi
      rw [show (1 : EReal) = ((1 : ℝ) : EReal) from rfl, Ideal.toIntClamped_coe]
      simp
    rw [this]
    simp [unpack]

omit hB in
/-- A zero entry packed and unpacked is zero. -/
theorem unpack_zero : unpack (Ideal.fptosi 8 0) = 0 := by
  have : Ideal.fptosi 8 0 = 0#8 := by
    unfold Ideal.fptosi
    rw [show (0 : EReal) = ((0 : ℝ) : EReal) from rfl, Ideal.toIntClamped_coe]
    simp
  rw [this]
  simp [unpack]

end Cert.Proof

end
-- ==== Proof.Pass.lean ====
/- One node pass over a packed binary incidence is one layer of the network. -/
module

public import proofs.«01_k».proof.Proof.Algebra
public import proofs.«01_k».proof.Proof.Payloads
public import proofs.«01_k».proof.Proof.Region0Entries
public import proofs.«01_k».proof.Proof.Dots

@[expose] public section

noncomputable section

namespace Cert.Proof

open Idealize.ShloMosaic
open scoped BigOperators

/-- A padded row below its length. -/
theorem padded_lt (row : Fin 10000 → EReal) (e : Fin 10000) : padded row ⟨e.val, by omega⟩ = row e := by
  unfold padded
  rw [dif_pos e.isLt]

/-- A padded row past its length. -/
theorem padded_ge (row : Fin 10000 → EReal) (e : Fin 10240) (h : 10000 ≤ e.val) : padded row e = 0 := by
  unfold padded
  rw [dif_neg (by omega)]

variable {B : Fin 10000 → Fin 10000 → EReal} (hB : Incidence B)
include hB

/-- A packed row of the incidence weighing scaled features sums over the hyperedges alone, at the incidence's own entries. -/
theorem Incidence.packed_sum (i : Fin 10000) (p : Fin 10240 → BitVec 8) (z : Fin 10240 → EReal)
    (hp : ∀ e, p e = Ideal.fptosi 8 (padded (B i) e)) :
    ∑ e, unpack (p e) * z e = ∑ e : Fin 10000, B i e * z ⟨e.val, by omega⟩ := by
  rw [sum_padded _ fun e he => by rw [hp e, padded_ge _ e he, unpack_zero, zero_mul]]
  exact Finset.sum_congr rfl fun e _ => by rw [hp, padded_lt, hB.unpack_pack]

/-- A pass's entry over a packed row, the scaled hyperedge sums and the node's reciprocal root is the layer's entry. -/
theorem Incidence.pass (b₁ b₂ : BitVec 32) (y x : Fin 10000 → Fin 128 → EReal) (W : Fin 128 → Fin 128 → EReal) (i : Fin 10000)
    (p : Fin 10240 → BitVec 8) (z : Fin 10240 → Fin 128 → EReal) (s : EReal)
    (hp : ∀ e, p e = Ideal.fptosi 8 (padded (B i) e))
    (hz : ∀ (e : Fin 10000) k, z ⟨e.val, by omega⟩ k = edgeSum B y e k * Host.scale (edgeSize B e) (edgeWeight B e))
    (hs : s = Ideal.rsqrt (degree B i)) (h : Fin 128) :
    passEntry b₁ b₂ p z s (x i) W h = layer (Ideal.ofBits .f32 b₁) (Ideal.ofBits .f32 b₂) B y x W i h := by
  unfold passEntry layer
  refine congrArg (fun f => layerOut _ _ f W h) (funext fun k => congrArg (fun a => blend a (x i k)) ?_)
  rw [hB.packed_sum i p (fun e => z e k) hp, hs, ← hB.aggregate_eq y i k]
  exact congrArg (· * Ideal.rsqrt (degree B i)) (Finset.sum_congr rfl fun e _ => by rw [hz])

end Cert.Proof

end
-- ==== Proof.Reference.lean ====
/- What the reference computes, entry by entry: its two results are the network's mathematics of Spec.lean. -/
module

public import proofs.«01_k».proof.Proof.Gen.ReferenceIdeal.Read
public import proofs.«01_k».proof.Proof.Spec

@[expose] public section

set_option maxRecDepth 16384

noncomputable section

namespace Cert.Proof.Reference

open Idealize.ShloMosaic Idealize.ShloMosaic.ValueIdx
open Cert.ReferenceIdeal Cert.ReferenceIdeal.Read Cert.Proof
open scoped BigOperators

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal))

/-- The incidence as numbers. -/
def inc (i e : Fin 10000) : EReal := x1 (ix2 i e)

/-- The embedding as numbers. -/
def emb (i : Fin 10000) (h : Fin 128) : EReal := embed (fun k => x0 (ix2 i k)) (fun k => x2 (ix2 h k)) (x3 (ix1 h))

/-- A layer's weights as numbers. -/
def wts (w : (⟨S128x128, .f32⟩ : BufTy).Contents (Elt Ideal)) (h k : Fin 128) : EReal := w (ix2 h k)

/-- Two two-axis indices with the same coordinates are equal. -/
theorem ext2 {a b : ℕ} {i j : (⟨2, ![a, b]⟩ : Shape).Idx} (h0 : (i 0).val = (j 0).val) (h1 : (i 1).val = (j 1).val) : i = j := by
  funext d; apply Fin.ext
  match d with
  | ⟨0, _⟩ => exact h0
  | ⟨1, _⟩ => exact h1

/-- Two one-axis indices with the same coordinate are equal. -/
theorem ext1 {a : ℕ} {i j : (⟨1, ![a]⟩ : Shape).Idx} (h0 : (i 0).val = (j 0).val) : i = j := by
  funext d; apply Fin.ext
  match d with
  | ⟨0, _⟩ => exact h0

/-- A two-axis array read at an index with the coordinates of one it is known at. -/
theorem move2 {a b : ℕ} (f : (⟨2, ![a, b]⟩ : Shape).Idx → EReal) {i j : (⟨2, ![a, b]⟩ : Shape).Idx} {v : EReal} (hv : f j = v)
    (h0 : (i 0).val = (j 0).val) (h1 : (i 1).val = (j 1).val) : f i = v := by
  rw [ext2 h0 h1]; exact hv

/-- A one-axis array read at an index with the coordinate of one it is known at. -/
theorem move1 {a : ℕ} (f : (⟨1, ![a]⟩ : Shape).Idx → EReal) {i j : (⟨1, ![a]⟩ : Shape).Idx} {v : EReal} (hv : f j = v)
    (h0 : (i 0).val = (j 0).val) : f i = v := by
  rw [ext1 h0]; exact hv

/-- The embedding stage. -/
theorem emb_eq (i : Fin 10000) (h : Fin 128) : val_main_v5 (F := Ideal) x0 x2 x3 (ix2 i h) = emb x0 x2 x3 i h := by
  rw [val_main_v5_apply, val_main_v4_apply, val_main_v1_apply, val_main_v3_apply, val_main_v2_apply, val_main_call0_v0_apply]
  unfold emb embed
  refine congrArg₂ (fun a b : EReal => max a b) (congrArg₂ (fun a b : EReal => a + b) (Finset.sum_congr rfl fun k _ => ?_) (congrArg x3 (ext1 rfl)))
    Ideal.ofBits_zero_f32
  rw [val_main_v0_apply]
  exact congrArg₂ (fun a b : EReal => a * b) (congrArg x0 (ext2 rfl rfl)) (congrArg x2 (ext2 rfl rfl))

/-- Layer one: the transposed incidence. -/
theorem transposed_one (e i : Fin 10000) : val_main_v6 (F := Ideal) x1 (ix2 e i) = inc x1 i e := by
  rw [val_main_v6_apply]
  exact move2 x1 rfl rfl rfl

/-- Layer one: a hyperedge's size. -/
theorem size_one (e : Fin 10000) : val_main_v7 (F := Ideal) x1 (ix1 e) = edgeSize (inc x1) e := by
  rw [val_main_v7_apply]
  refine (congrArg₂ (fun a b : EReal => a + b) Ideal.ofBits_zero_f32 (Finset.sum_congr rfl fun i _ => ?_)).trans (zero_add _)
  exact move2 (val_main_v6 (F := Ideal) x1) (transposed_one x1 e i) rfl rfl

/-- Layer one: a node's degree. -/
theorem degree_one (i : Fin 10000) : val_main_v12 (F := Ideal) x1 (ix1 i) = degree (inc x1) i := by
  rw [val_main_v12_apply]
  refine (congrArg₂ (fun a b : EReal => a + b) Ideal.ofBits_zero_f32 (Finset.sum_congr rfl fun e _ => ?_)).trans (zero_add _)
  exact move2 x1 rfl rfl rfl

/-- Layer one: a hyperedge's nodes' degrees, summed. -/
theorem weight_one (e : Fin 10000) : val_main_v13 (F := Ideal) x1 (ix1 e) = edgeWeight (inc x1) e := by
  rw [val_main_v13_apply]
  refine Finset.sum_congr rfl fun i _ => congrArg₂ (fun a b : EReal => a * b) ?_ ?_
  · exact move2 (val_main_v6 (F := Ideal) x1) (transposed_one x1 e i) rfl rfl
  · exact move1 (val_main_v12 (F := Ideal) x1) (degree_one x1 i) rfl

/-- Layer one: a hyperedge's nodes' features, summed. -/
theorem sum_one (e : Fin 10000) (k : Fin 128) : val_main_v8 (F := Ideal) x0 x1 x2 x3 (ix2 e k) = edgeSum (inc x1) (emb x0 x2 x3) e k := by
  rw [val_main_v8_apply]
  refine Finset.sum_congr rfl fun i _ => congrArg₂ (fun a b : EReal => a * b) ?_ ?_
  · exact move2 (val_main_v6 (F := Ideal) x1) (transposed_one x1 e i) rfl rfl
  · exact move2 (val_main_v5 (F := Ideal) x0 x2 x3) (emb_eq x0 x2 x3 i k) rfl rfl

/-- Layer one: a hyperedge's mean feature. -/
theorem mean_one (e : Fin 10000) (k : Fin 128) : val_main_v11 (F := Ideal) x0 x1 x2 x3 (ix2 e k) = edgeMean (inc x1) (emb x0 x2 x3) e k := by
  rw [val_main_v11_apply, val_main_v10_apply, val_main_v9_apply, sum_one]
  exact congrArg (Ideal.div _) (move1 (val_main_v7 (F := Ideal) x1) (size_one x1 e) rfl)

/-- Layer one: the root of a hyperedge's mean degree. -/
theorem root_one (e : Fin 10000) : val_main_v15 (F := Ideal) x1 (ix1 e) = Ideal.sqrt (Ideal.div (edgeWeight (inc x1) e) (edgeSize (inc x1) e)) := by
  rw [val_main_v15_apply, val_main_v14_apply, weight_one, size_one]
  rfl

/-- Layer one: a hyperedge's normalised mean. -/
theorem normed_one (e : Fin 10000) (k : Fin 128) : val_main_v18 (F := Ideal) x0 x1 x2 x3 (ix2 e k)
    = Ideal.div (edgeMean (inc x1) (emb x0 x2 x3) e k) (Ideal.sqrt (Ideal.div (edgeWeight (inc x1) e) (edgeSize (inc x1) e))) := by
  rw [val_main_v18_apply, val_main_v17_apply, val_main_v16_apply, mean_one]
  exact congrArg (Ideal.div _) (move1 (val_main_v15 (F := Ideal) x1) (root_one x1 e) rfl)

/-- Layer one: a node's aggregate. -/
theorem aggregate_one (i : Fin 10000) (k : Fin 128) : val_main_v23 (F := Ideal) x0 x1 x2 x3 (ix2 i k) = aggregate (inc x1) (emb x0 x2 x3) i k := by
  rw [val_main_v23_apply, val_main_v22_apply, val_main_v21_apply, val_main_v20_apply, val_main_v19_apply]
  unfold aggregate
  refine congrArg₂ Ideal.div (Finset.sum_congr rfl fun e _ => congrArg₂ (fun a b : EReal => a * b) ?_ ?_) (congrArg Ideal.sqrt ?_)
  · exact move2 x1 rfl rfl rfl
  · exact move2 (val_main_v18 (F := Ideal) x0 x1 x2 x3) (normed_one x0 x1 x2 x3 e k) rfl rfl
  · exact move1 (val_main_v12 (F := Ideal) x1) (degree_one x1 i) rfl

/-- Layer one: a node's blended row. -/
theorem blend_one (i : Fin 10000) (k : Fin 128) : val_main_v28 (F := Ideal) x0 x1 x2 x3 (ix2 i k)
    = blend (aggregate (inc x1) (emb x0 x2 x3) i k) (emb x0 x2 x3 i k) := by
  rw [val_main_v28_apply, val_main_v25_apply, val_main_v27_apply, val_main_v24_apply, val_main_v26_apply, aggregate_one, emb_eq]
  rfl

/-- Layer one: the output. -/
theorem layer_one (i : Fin 10000) (h : Fin 128) : val_main_v36 (F := Ideal) x0 x1 x2 x3 x4 (ix2 i h)
    = layer first₁ first₂ (inc x1) (emb x0 x2 x3) (emb x0 x2 x3) (wts x4) i h := by
  rw [val_main_v36_apply, val_main_v35_apply, val_main_v30_apply, val_main_v34_apply, val_main_v29_apply, val_main_v33_apply,
    val_main_v32_apply, val_main_call1_v0_apply, blend_one]
  unfold layer layerOut
  refine congrArg₂ (fun a b : EReal => max a b) (congrArg₂ (fun a b : EReal => a + b) rfl
    (congrArg₂ (fun a b : EReal => a * b) rfl (Finset.sum_congr rfl fun k _ => ?_))) Ideal.ofBits_zero_f32
  rw [val_main_v31_apply]
  refine congrArg₂ (fun a b : EReal => a * b) ?_ (congrArg x4 (ext2 rfl rfl))
  exact move2 (val_main_v28 (F := Ideal) x0 x1 x2 x3) (blend_one x0 x1 x2 x3 i k) rfl rfl

/-- The first layer's output as numbers. -/
def hidden (i : Fin 10000) (h : Fin 128) : EReal := layer first₁ first₂ (inc x1) (emb x0 x2 x3) (emb x0 x2 x3) (wts x4) i h

/-- Layer two: the transposed incidence. -/
theorem transposed_two (e i : Fin 10000) : val_main_v37 (F := Ideal) x1 (ix2 e i) = inc x1 i e := by
  rw [val_main_v37_apply]
  exact move2 x1 rfl rfl rfl

/-- Layer two: a hyperedge's size. -/
theorem size_two (e : Fin 10000) : val_main_v38 (F := Ideal) x1 (ix1 e) = edgeSize (inc x1) e := by
  rw [val_main_v38_apply]
  refine (congrArg₂ (fun a b : EReal => a + b) Ideal.ofBits_zero_f32 (Finset.sum_congr rfl fun i _ => ?_)).trans (zero_add _)
  exact move2 (val_main_v37 (F := Ideal) x1) (transposed_two x1 e i) rfl rfl

/-- Layer two: a node's degree. -/
theorem degree_two (i : Fin 10000) : val_main_v43 (F := Ideal) x1 (ix1 i) = degree (inc x1) i := by
  rw [val_main_v43_apply]
  refine (congrArg₂ (fun a b : EReal => a + b) Ideal.ofBits_zero_f32 (Finset.sum_congr rfl fun e _ => ?_)).trans (zero_add _)
  exact move2 x1 rfl rfl rfl

/-- Layer two: a hyperedge's nodes' degrees, summed. -/
theorem weight_two (e : Fin 10000) : val_main_v44 (F := Ideal) x1 (ix1 e) = edgeWeight (inc x1) e := by
  rw [val_main_v44_apply]
  refine Finset.sum_congr rfl fun i _ => congrArg₂ (fun a b : EReal => a * b) ?_ ?_
  · exact move2 (val_main_v37 (F := Ideal) x1) (transposed_two x1 e i) rfl rfl
  · exact move1 (val_main_v43 (F := Ideal) x1) (degree_two x1 i) rfl

/-- Layer two: a hyperedge's nodes' features, summed. -/
theorem sum_two (e : Fin 10000) (k : Fin 128) : val_main_v39 (F := Ideal) x0 x1 x2 x3 x4 (ix2 e k) = edgeSum (inc x1) (hidden x0 x1 x2 x3 x4) e k := by
  rw [val_main_v39_apply]
  refine Finset.sum_congr rfl fun i _ => congrArg₂ (fun a b : EReal => a * b) ?_ ?_
  · exact move2 (val_main_v37 (F := Ideal) x1) (transposed_two x1 e i) rfl rfl
  · exact move2 (val_main_v36 (F := Ideal) x0 x1 x2 x3 x4) (layer_one x0 x1 x2 x3 x4 i k) rfl rfl

/-- Layer two: a hyperedge's mean feature. -/
theorem mean_two (e : Fin 10000) (k : Fin 128) : val_main_v42 (F := Ideal) x0 x1 x2 x3 x4 (ix2 e k) = edgeMean (inc x1) (hidden x0 x1 x2 x3 x4) e k := by
  rw [val_main_v42_apply, val_main_v41_apply, val_main_v40_apply, sum_two]
  exact congrArg (Ideal.div _) (move1 (val_main_v38 (F := Ideal) x1) (size_two x1 e) rfl)

/-- Layer two: the root of a hyperedge's mean degree. -/
theorem root_two (e : Fin 10000) : val_main_v46 (F := Ideal) x1 (ix1 e) = Ideal.sqrt (Ideal.div (edgeWeight (inc x1) e) (edgeSize (inc x1) e)) := by
  rw [val_main_v46_apply, val_main_v45_apply, weight_two, size_two]
  rfl

/-- Layer two: a hyperedge's normalised mean. -/
theorem normed_two (e : Fin 10000) (k : Fin 128) : val_main_v49 (F := Ideal) x0 x1 x2 x3 x4 (ix2 e k)
    = Ideal.div (edgeMean (inc x1) (hidden x0 x1 x2 x3 x4) e k) (Ideal.sqrt (Ideal.div (edgeWeight (inc x1) e) (edgeSize (inc x1) e))) := by
  rw [val_main_v49_apply, val_main_v48_apply, val_main_v47_apply, mean_two]
  exact congrArg (Ideal.div _) (move1 (val_main_v46 (F := Ideal) x1) (root_two x1 e) rfl)

/-- Layer two: a node's aggregate. -/
theorem aggregate_two (i : Fin 10000) (k : Fin 128) : val_main_v54 (F := Ideal) x0 x1 x2 x3 x4 (ix2 i k) = aggregate (inc x1) (hidden x0 x1 x2 x3 x4) i k := by
  rw [val_main_v54_apply, val_main_v53_apply, val_main_v52_apply, val_main_v51_apply, val_main_v50_apply]
  unfold aggregate
  refine congrArg₂ Ideal.div (Finset.sum_congr rfl fun e _ => congrArg₂ (fun a b : EReal => a * b) ?_ ?_) (congrArg Ideal.sqrt ?_)
  · exact move2 x1 rfl rfl rfl
  · exact move2 (val_main_v49 (F := Ideal) x0 x1 x2 x3 x4) (normed_two x0 x1 x2 x3 x4 e k) rfl rfl
  · exact move1 (val_main_v43 (F := Ideal) x1) (degree_two x1 i) rfl

/-- Layer two: a node's blended row. -/
theorem blend_two (i : Fin 10000) (k : Fin 128) : val_main_v59 (F := Ideal) x0 x1 x2 x3 x4 (ix2 i k)
    = blend (aggregate (inc x1) (hidden x0 x1 x2 x3 x4) i k) (emb x0 x2 x3 i k) := by
  rw [val_main_v59_apply, val_main_v56_apply, val_main_v58_apply, val_main_v55_apply, val_main_v57_apply, aggregate_two, emb_eq]
  rfl

/-- Layer two: the output. -/
theorem layer_two (i : Fin 10000) (h : Fin 128) : val_main_v67 (F := Ideal) x0 x1 x2 x3 x4 x5 (ix2 i h)
    = layer second₁ second₂ (inc x1) (hidden x0 x1 x2 x3 x4) (emb x0 x2 x3) (wts x5) i h := by
  rw [val_main_v67_apply, val_main_v66_apply, val_main_v61_apply, val_main_v65_apply, val_main_v60_apply, val_main_v64_apply,
    val_main_v63_apply, val_main_call2_v0_apply, blend_two]
  unfold layer layerOut
  refine congrArg₂ (fun a b : EReal => max a b) (congrArg₂ (fun a b : EReal => a + b) rfl
    (congrArg₂ (fun a b : EReal => a * b) rfl (Finset.sum_congr rfl fun k _ => ?_))) Ideal.ofBits_zero_f32
  rw [val_main_v62_apply]
  refine congrArg₂ (fun a b : EReal => a * b) ?_ (congrArg x5 (ext2 rfl rfl))
  exact move2 (val_main_v59 (F := Ideal) x0 x1 x2 x3 x4) (blend_two x0 x1 x2 x3 x4 i k) rfl rfl

end Cert.Proof.Reference

end
-- ==== Proof.Kernel0.lean ====
/- The kernel's first region read as numbers: its five arrays, over the program's arguments. -/
module

public import proofs.«01_k».proof.Proof.Region0Final
public import proofs.«01_k».proof.Proof.Host
public import proofs.«01_k».proof.Proof.Pass
public import proofs.«01_k».proof.Proof.Reference
public import Idealize.ShloMosaic.Lib.IdealHost

@[expose] public section

set_option maxRecDepth 16384

noncomputable section

namespace Cert.Proof.Kernel

open Idealize.ShloMosaic Idealize.ShloMosaic.TcCoe Idealize.ShloMosaic.ValueIdx
open Cert.KernelIdeal Cert.KernelIdeal.Gen Cert.Proof
open scoped BigOperators

variable (m : (ℓ : Loc nD τ sig) → Buf (Elt Ideal) ℓ) (ρ : Dev nD → PrngReg) (c : Dev nD)

/-- The launched incidence. -/
abbrev B : Fin 10000 → Fin 10000 → EReal := Reference.inc (m ((c.tc : Thread nD τ).loc main_arg1))

/-- The launched features' embedding. -/
abbrev X : Fin 10000 → Fin 128 → EReal :=
  Reference.emb (m ((c.tc : Thread nD τ).loc main_arg0)) (m ((c.tc : Thread nD τ).loc main_arg2)) (m ((c.tc : Thread nD τ).loc main_arg3))

/-- At the first region's entry the incidence is the launched one. -/
theorem inc_eq : Region0.inc (V1 m ρ) c = B m c := by
  funext i e
  unfold Region0.inc
  exact congrFun (W1_args m ρ c main_arg1 (by decide)) (ix2 i e)

/-- At the first region's entry the bias row is the launched bias. -/
theorem bias_eq (h : Fin 128) : W1 m ρ c (Proc.devRef .tc main_v0) (ix2 0 h) = m ((c.tc : Thread nD τ).loc main_arg3) (ix1 h) := by
  refine (congrFun (Host.first_bias (W0 m ρ c)) (ix2 0 h)).trans ?_
  refine shapeCast_apply _ _ _ (ix1 h) ?_
  rw [Shape.rowMajor_val_two, Shape.rowMajor_val_one]
  show h.val = 0 * 128 + h.val
  omega

/-- At the first region's entry the embedding is the launched features'. -/
theorem emb_eq : Region0.emb (V1 m ρ) c = X m c := by
  funext i h
  unfold Region0.emb X Reference.emb
  have h0 : ∀ k, V1 m ρ c main_arg0 (ix2 i k) = m ((c.tc : Thread nD τ).loc main_arg0) (ix2 i k) := fun k =>
    congrFun (W1_args m ρ c main_arg0 (by decide)) (ix2 i k)
  have h2 : ∀ k, V1 m ρ c main_arg2 (ix2 h k) = m ((c.tc : Thread nD τ).loc main_arg2) (ix2 h k) := fun k =>
    congrFun (W1_args m ρ c main_arg2 (by decide)) (ix2 h k)
  rw [funext h0, funext h2]
  exact congrArg (embed _ _) (bias_eq m ρ c h)

/-- After the first region: the embedding. -/
theorem x_eq (i : Fin 10000) (h : Fin 128) : W2 m ρ c (Proc.devRef .tc main_v1_0) (ix2 i h) = X m c i h := by
  refine (congrFun ((W2_arr m ρ c 4).trans (Region0.final4 (V1 m ρ) c)) (ix2 i h)).trans ?_
  unfold Region0.result4
  rw [emb_eq]

/-- After the first region: the nodes' degrees. -/
theorem degree_eq (i : Fin 10000) : W2 m ρ c (Proc.devRef .tc main_v1_1) (ix2 i 0) = degree (B m c) i := by
  refine (congrFun ((W2_arr m ρ c 5).trans (Region0.final5 (V1 m ρ) c)) (ix2 i 0)).trans ?_
  unfold Region0.result5
  rw [inc_eq]
  rfl

/-- After the first region: the hyperedges' sizes. -/
theorem size_eq (e : Fin 10000) : W2 m ρ c (Proc.devRef .tc main_v1_2) (ix2 0 e) = edgeSize (B m c) e := by
  refine (congrFun ((W2_arr m ρ c 6).trans (Region0.final6 (V1 m ρ) c)) (ix2 0 e)).trans ?_
  show (∑ i : Fin 10000, Region0.lead (V1 m ρ) c 0 i * Region0.inc (V1 m ρ) c i e : EReal) = ∑ i, B m c i e
  rw [inc_eq]
  refine Finset.sum_congr rfl fun i _ => ?_
  unfold Region0.lead
  rw [if_pos rfl, Ideal.ofBits_one_f32, one_mul]

/-- After the first region: the hyperedges' degree sums. -/
theorem weight_eq (e : Fin 10000) : W2 m ρ c (Proc.devRef .tc main_v1_2) (ix2 1 e) = edgeWeight (B m c) e := by
  refine (congrFun ((W2_arr m ρ c 6).trans (Region0.final6 (V1 m ρ) c)) (ix2 1 e)).trans ?_
  show (∑ i : Fin 10000, Region0.lead (V1 m ρ) c 1 i * Region0.inc (V1 m ρ) c i e : EReal) = ∑ i, B m c i e * degree (B m c) i
  refine Finset.sum_congr rfl fun i _ => ?_
  unfold Region0.lead
  rw [if_neg (by exact Fin.zero_ne_one.symm), inc_eq, mul_comm]
  rfl

/-- After the first region: the hyperedges' feature sums. -/
theorem sum_eq (h : Fin 128) (e : Fin 10000) :
    W2 m ρ c (Proc.devRef .tc main_v1_3) (ix2 h (⟨e.val, by omega⟩ : Fin 10240)) = edgeSum (B m c) (X m c) e h := by
  refine (congrFun ((W2_arr m ρ c 7).trans (Region0.final7 (V1 m ρ) c)) (ix2 h (⟨e.val, by omega⟩ : Fin 10240))).trans ?_
  show (∑ i : Fin 10000, Region0.emb (V1 m ρ) c i h * padded (Region0.inc (V1 m ρ) c i) (⟨e.val, by omega⟩ : Fin 10240) : EReal)
    = ∑ i, B m c i e * X m c i h
  rw [emb_eq, inc_eq]
  refine Finset.sum_congr rfl fun i _ => ?_
  rw [mul_comm]
  exact congrArg (· * X m c i h) (padded_lt (B m c i) e)

/-- After the first region: the packed incidence, at a node's place. -/
theorem packed_eq (i : Fin 10000) (e : Fin 10240) :
    W2 m ρ c (Proc.devRef .tc main_v1_4) (ix3 (⟨i.val / 8, by omega⟩ : Fin 1250) (⟨i.val % 8, by omega⟩ : Fin 8) e)
      = Ideal.fptosi 8 (padded (B m c i) e) := by
  refine (congrFun ((W2_arr m ρ c 8).trans (Region0.final8 (V1 m ρ) c)) _).trans ?_
  unfold Region0.result8
  rw [inc_eq]
  refine congrArg (fun r : Fin 10000 => Ideal.fptosi 8 (padded (B m c r) e)) (Fin.ext ?_)
  show 8 * (i.val / 8) + i.val % 8 = i.val
  omega

end Cert.Proof.Kernel

end
-- ==== Proof.Region1.lean ====
/- Region 1: what its output array holds after its ten points, from the contents of its operands' arrays. -/
module

public import proofs.«01_k».proof.Proof.Gen.KernelIdeal.Frame
public import proofs.«01_k».proof.Proof.Payloads

@[expose] public section

set_option maxRecDepth 16384

noncomputable section

namespace Cert.Proof.Region1

open Idealize.ShloMosaic Idealize.ShloMosaic.TcCoe Idealize.ShloMosaic.ValueIdx
open Cert.KernelIdeal Cert.KernelIdeal.Gen Cert.Proof
open scoped BigOperators

variable (V : (c : Dev nD) → (b : Ref sig .tc) → Buf (Elt Ideal) ((c : Thread nD τ).loc b)) (c : Dev nD)

/-- The block indices of the six windows at a point. -/
theorem indices : ∀ t : Fin grid1.N,
    (win1_0.index t 0 = t.val ∧ win1_0.index t 1 = 0 ∧ win1_0.index t 2 = 0)
    ∧ (win1_1.index t 0 = 0 ∧ win1_1.index t 1 = 0) ∧ (win1_2.index t 0 = t.val ∧ win1_2.index t 1 = 0)
    ∧ (win1_3.index t 0 = t.val ∧ win1_3.index t 1 = 0) ∧ (win1_4.index t 0 = 0 ∧ win1_4.index t 1 = 0)
    ∧ (win1_5.index t 0 = t.val ∧ win1_5.index t 1 = 0) := by decide +kernel

/-- A point is below ten. -/
theorem point_lt (t : Fin cfg1.N) : t.val < 10 := lt_of_lt_of_eq t.isLt N_1

/-- The packed incidence's block at a point: 125 groups of eight rows. -/
theorem block0 (t : Fin cfg1.N) (a : Fin 125) (b : Fin 8) (e : Fin 10240) :
    (iblk1 V c 0 t : Vec Ideal S125x8x10240 .i8) (ix3 a b e)
      = V c main_v1_4 (ix3 ⟨125 * t.val + a.val, by have := point_lt t; omega⟩ b e) := by
  have hi := (indices t).1
  unfold iblk1
  rw [View.read_apply]
  show V c main_v1_4 _ = V c main_v1_4 _
  congr 1; funext d; apply Fin.ext
  match d with
  | ⟨0, _⟩ => show win1_0.index t 0 * 125 + 1 * a.val = 125 * t.val + a.val; rw [hi.1]; omega
  | ⟨1, _⟩ => show win1_0.index t 1 * 8 + 1 * b.val = b.val; rw [hi.2.1]; omega
  | ⟨2, _⟩ => show win1_0.index t 2 * 10240 + 1 * e.val = e.val; rw [hi.2.2]; omega

/-- The hyperedge features' block: the whole array at every point. -/
theorem block1 (t : Fin cfg1.N) (e : Fin 10240) (k : Fin 128) :
    (iblk1 V c 1 t : Vec Ideal S10240x128 .bf16) (ix2 e k) = V c main_v13 (ix2 e k) := by
  have hi := (indices t).2.1
  unfold iblk1
  rw [View.read_apply]
  show V c main_v13 _ = V c main_v13 _
  congr 1; funext d; apply Fin.ext
  match d with
  | ⟨0, _⟩ => show win1_1.index t 0 * 10240 + 1 * e.val = e.val; rw [hi.1]; omega
  | ⟨1, _⟩ => show win1_1.index t 1 * 128 + 1 * k.val = k.val; rw [hi.2]; omega

/-- The skip connection's block: a thousand rows. -/
theorem block2 (t : Fin cfg1.N) (r : Fin 1000) (k : Fin 128) :
    (iblk1 V c 2 t : Vec Ideal S1000x128 .f32) (ix2 r k)
      = V c main_v1_0 (ix2 ⟨1000 * t.val + r.val, by have := point_lt t; omega⟩ k) := by
  have hi := (indices t).2.2.1
  unfold iblk1
  rw [View.read_apply]
  show V c main_v1_0 _ = V c main_v1_0 _
  congr 1; funext d; apply Fin.ext
  match d with
  | ⟨0, _⟩ => show win1_2.index t 0 * 1000 + 1 * r.val = 1000 * t.val + r.val; rw [hi.1]; omega
  | ⟨1, _⟩ => show win1_2.index t 1 * 128 + 1 * k.val = k.val; rw [hi.2]; omega

/-- The row factors' block. -/
theorem block3 (t : Fin cfg1.N) (r : Fin 1000) :
    (iblk1 V c 3 t : Vec Ideal S1000x1 .f32) (ix2 r 0)
      = V c main_v14 (ix2 ⟨1000 * t.val + r.val, by have := point_lt t; omega⟩ 0) := by
  have hi := (indices t).2.2.2.1
  unfold iblk1
  rw [View.read_apply]
  show V c main_v14 _ = V c main_v14 _
  congr 1; funext d; apply Fin.ext
  match d with
  | ⟨0, _⟩ => show win1_3.index t 0 * 1000 + 1 * r.val = 1000 * t.val + r.val; rw [hi.1]; omega
  | ⟨1, _⟩ => show win1_3.index t 1 * 1 + 1 * 0 = 0; rw [hi.2]

/-- The layer's weights: the whole array at every point. -/
theorem block4 (t : Fin cfg1.N) (h k : Fin 128) :
    (iblk1 V c 4 t : Vec Ideal S128x128 .f32) (ix2 h k) = V c main_arg4 (ix2 h k) := by
  have hi := (indices t).2.2.2.2.1
  unfold iblk1
  rw [View.read_apply]
  show V c main_arg4 _ = V c main_arg4 _
  congr 1; funext d; apply Fin.ext
  match d with
  | ⟨0, _⟩ => show win1_4.index t 0 * 128 + 1 * h.val = h.val; rw [hi.1]; omega
  | ⟨1, _⟩ => show win1_4.index t 1 * 128 + 1 * k.val = k.val; rw [hi.2]; omega

/-- The output array: every node's entry of the pass. -/
def result : S10000x128.Idx → EReal := fun i =>
  passEntry 0x3F183370#32 0x3ECF991F#32 (fun e => V c main_v1_4 (ix3 ⟨(i 0).val / 8, by have : (i 0).val < 10000 := (i 0).isLt; omega⟩ ⟨(i 0).val % 8, by omega⟩ e))
    (fun e k => V c main_v13 (ix2 e k)) (V c main_v14 (ix2 (i 0) 0)) (fun k => V c main_v1_0 (ix2 (i 0) k))
    (fun h k => V c main_arg4 (ix2 h k)) (i 1)

/-- The body's block is the payload of the five blocks it loads whole. -/
theorem after_eq (t : Fin cfg1.N) :
    (dat1 V c).after 5 t
      = k1_pay1 (iblk1 V c 0 t) (iblk1 V c 1 t) (iblk1 V c 3 t) (iblk1 V c 2 t) (iblk1 V c 4 t) := by
  have hz2 : (![0, 0] : Fin 2 → Nat) = fun _ => 0 := funext fun a => by fin_cases a <;> rfl
  have hz3 : (![0, 0, 0] : Fin 3 → Nat) = fun _ => 0 := funext fun a => by fin_cases a <;> rfl
  rw [after1_5]
  unfold out1_5
  rw [View.canon_unit_zero hz2]
  rw [View.ld_unit_zero hz3, View.ld_unit_zero hz2, View.ld_unit_zero hz2, View.ld_unit_zero hz2, View.ld_unit_zero hz2]

/-- The payload of a point's blocks, at an entry, is the output array's entry. -/
theorem entry (t : Fin cfg1.N) (r : Fin 1000) (h : Fin 128) :
    k1_pay1 (F := Ideal) (iblk1 V c 0 t) (iblk1 V c 1 t) (iblk1 V c 3 t) (iblk1 V c 2 t) (iblk1 V c 4 t) (ix2 r h)
      = result V c (ix2 ⟨1000 * t.val + r.val, by have := point_lt t; omega⟩ h) := by
  have ht := point_lt t
  refine (k1_pay1_apply _ _ _ _ _ r h).trans ?_
  have e0 : (fun e : Fin 10240 => (iblk1 V c 0 t : Vec Ideal S125x8x10240 .i8) (ix3 ⟨r.val / 8, by omega⟩ ⟨r.val % 8, by omega⟩ e))
      = fun e => V c main_v1_4 (ix3 ⟨(1000 * t.val + r.val) / 8, by omega⟩ ⟨(1000 * t.val + r.val) % 8, by omega⟩ e) := by
    funext e
    rw [block0]
    congr 1; funext d; apply Fin.ext
    match d with
    | ⟨0, _⟩ => show 125 * t.val + r.val / 8 = (1000 * t.val + r.val) / 8; omega
    | ⟨1, _⟩ => show r.val % 8 = (1000 * t.val + r.val) % 8; omega
    | ⟨2, _⟩ => rfl
  have e1 : (fun (e : Fin 10240) (k : Fin 128) => (iblk1 V c 1 t : Vec Ideal S10240x128 .bf16) (ix2 e k)) = fun e k => V c main_v13 (ix2 e k) :=
    funext fun e => funext fun k => block1 V c t e k
  have e2 : (fun k : Fin 128 => (iblk1 V c 2 t : Vec Ideal S1000x128 .f32) (ix2 r k))
      = fun k => V c main_v1_0 (ix2 ⟨1000 * t.val + r.val, by omega⟩ k) := funext fun k => block2 V c t r k
  have e4 : (fun h k : Fin 128 => (iblk1 V c 4 t : Vec Ideal S128x128 .f32) (ix2 h k)) = fun h k => V c main_arg4 (ix2 h k) :=
    funext fun h => funext fun k => block4 V c t h k
  rw [e0, e1, e2, e4, block3]
  rfl

/-- What a point writes back is the array's block there. -/
theorem flushed_eq (t : Fin cfg1.N) :
    (dat1 V c).flushed 5 t = ((cfg1.win 5).blk t).view.read (Elt Ideal) (result V c) := by
  have ht := point_lt t
  have hi := (indices t).2.2.2.2.2
  have hemb : ∀ (r : Fin 1000) (h : Fin 128), ((cfg1.win 5).blk t).view.emb (ix2 r h)
      = (ix2 (⟨1000 * t.val + r.val, by omega⟩ : Fin 10000) h : S10000x128.Idx) := fun r h => by
    funext d; apply Fin.ext
    match d with
    | ⟨0, _⟩ => show win1_5.index t 0 * 1000 + 1 * r.val = 1000 * t.val + r.val; rw [hi.1]; omega
    | ⟨1, _⟩ => show win1_5.index t 1 * 128 + 1 * h.val = h.val; rw [hi.2]; omega
  have hread : ∀ (r : Fin 1000) (h : Fin 128), ((cfg1.win 5).blk t).view.read (Elt Ideal) (result V c) (ix2 r h)
      = result V c (ix2 (⟨1000 * t.val + r.val, by omega⟩ : Fin 10000) h) := fun r h =>
    (View.read_apply _ _).trans (congrArg (result V c) (hemb r h))
  show (cfg1.win 5).cut (grid1.coords t) ((dat1 V c).after 5 t) = _
  rw [after_eq]
  refine funext fun (j : S1000x128.Idx) => ?_
  rw [eq_ix2 j]
  exact (entry V c t (j 0) (j 1)).trans (hread (j 0) (j 1)).symm

/-- After the last point the output array is that one. -/
theorem final : (dat1 V c).arrAt 5 cfg1.N = result V c :=
  (dat1 V c).arrAt_eq_of_cover 5 (result V c) (fun t _ => flushed_eq V c t) fun (i : S10000x128.Idx) => by
    have h0 : (i 0 : Nat) < 10000 := (i 0).isLt
    have h1 : (i 1 : Nat) < 128 := (i 1).isLt
    let t : Fin grid1.N := ⟨(i 0 : Nat) / 1000, by rw [show grid1.N = 10 from N_1]; omega⟩
    have hi := (indices t).2.2.2.2.2
    refine ⟨t, flush1_5 t, ?_⟩
    show i ∈ ((View.whole main_v15).slice (win1_5.rect t)).set
    rw [View.set_slice_whole, Rect.mem_set_unit]
    intro a
    match a with
    | ⟨0, _⟩ => show win1_5.index t 0 * 1000 ≤ (i 0 : Nat) ∧ (i 0 : Nat) < win1_5.index t 0 * 1000 + 1000
                rw [hi.1]; show (i 0 : Nat) / 1000 * 1000 ≤ _ ∧ _ < (i 0 : Nat) / 1000 * 1000 + 1000; omega
    | ⟨1, _⟩ => show win1_5.index t 1 * 128 ≤ (i 1 : Nat) ∧ (i 1 : Nat) < win1_5.index t 1 * 128 + 128
                rw [hi.2]; omega

end Cert.Proof.Region1

end
-- ==== Proof.Kernel1.lean ====
/- The kernel's first layer: the operands of its second region and what it leaves. -/
module

public import proofs.«01_k».proof.Proof.Kernel0
public import proofs.«01_k».proof.Proof.Region1

@[expose] public section

set_option maxRecDepth 16384

noncomputable section

namespace Cert.Proof.Kernel

open Idealize.ShloMosaic Idealize.ShloMosaic.TcCoe Idealize.ShloMosaic.ValueIdx
open Cert.KernelIdeal Cert.KernelIdeal.Gen Cert.Proof
open scoped BigOperators

variable (m : (ℓ : Loc nD τ sig) → Buf (Elt Ideal) ℓ) (ρ : Dev nD → PrngReg) (c : Dev nD)

/-- The first layer's launched output. -/
abbrev H : Fin 10000 → Fin 128 → EReal :=
  layer first₁ first₂ (B m c) (X m c) (X m c) (Reference.wts (m ((c.tc : Thread nD τ).loc main_arg4)))

/-- A hyperedge's scale, over the launched incidence. -/
abbrev scaleAt (e : Fin 10000) : EReal := Host.scale (edgeSize (B m c) e) (edgeWeight (B m c) e)

/-- Before the second region: the scale row. -/
theorem scale_eq (e : Fin 10000) :
    W3 m ρ c (Proc.devRef .tc main_v9) (ix2 0 (⟨e.val, by omega⟩ : Fin 10240)) = scaleAt m c e := by
  refine (congrFun (Host.second_scale (W2 m ρ c)) _).trans ((Host.scaleRow_apply _ e).trans ?_)
  exact congrArg₂ Host.scale (size_eq m ρ c e) (weight_eq m ρ c e)

/-- Before the second region: the scaled features. -/
theorem scaled_eq (e : Fin 10000) (h : Fin 128) :
    W3 m ρ c (Proc.devRef .tc main_v13) (ix2 (⟨e.val, by omega⟩ : Fin 10240) h) = edgeSum (B m c) (X m c) e h * scaleAt m c e := by
  refine (congrFun (Host.second_scaled (W2 m ρ c)) _).trans ((Host.scaled_apply _ _ _ h).trans ?_)
  refine congrArg₂ (fun a b : EReal => a * b) (sum_eq m ρ c h e) ((Host.scaleRow_apply _ e).trans ?_)
  exact congrArg₂ Host.scale (size_eq m ρ c e) (weight_eq m ρ c e)

/-- Before the second region: the nodes' factors. -/
theorem factor_eq (i : Fin 10000) : W3 m ρ c (Proc.devRef .tc main_v14) (ix2 i 0) = Ideal.rsqrt (degree (B m c) i) :=
  (congrFun (Host.second_factor (W2 m ρ c)) (ix2 i 0)).trans (congrArg Ideal.rsqrt (degree_eq m ρ c i))

/-- Before the second region: the hyperedges' sizes, as a row. -/
theorem sizeRow_eq (e : Fin 10000) : W3 m ρ c (Proc.devRef .tc main_v2) (ix2 0 e) = edgeSize (B m c) e :=
  (congrFun (Host.second_size (W2 m ρ c)) (ix2 0 e)).trans ((Host.slice0_apply _ e).trans (size_eq m ρ c e))

/-- Before the second region: the embedding. -/
theorem x_eq3 (i : Fin 10000) (h : Fin 128) : W3 m ρ c (Proc.devRef .tc main_v1_0) (ix2 i h) = X m c i h :=
  (congrFun (W3_of m ρ c main_v1_0 (by decide)) (ix2 i h)).trans (x_eq m ρ c i h)

/-- Before the second region: the packed incidence. -/
theorem packed_eq3 (i : Fin 10000) (e : Fin 10240) :
    W3 m ρ c (Proc.devRef .tc main_v1_4) (ix3 (⟨i.val / 8, by omega⟩ : Fin 1250) (⟨i.val % 8, by omega⟩ : Fin 8) e)
      = Ideal.fptosi 8 (padded (B m c i) e) :=
  (congrFun (W3_of m ρ c main_v1_4 (by decide)) _).trans (packed_eq m ρ c i e)

/-- After the second region: the first layer's output. -/
theorem hidden_eq (hB : Incidence (B m c)) (i : Fin 10000) (h : Fin 128) :
    W4 m ρ c (Proc.devRef .tc main_v15) (ix2 i h) = H m c i h := by
  refine (congrFun ((W4_arr m ρ c 5).trans (Region1.final (V3 m ρ) c)) (ix2 i h)).trans ?_
  unfold Region1.result
  have hx : (fun k => V3 m ρ c main_v1_0 (ix2 i k)) = X m c i := funext fun k => x_eq3 m ρ c i k
  have hw : (fun g k => V3 m ρ c main_arg4 (ix2 g k)) = Reference.wts (m ((c.tc : Thread nD τ).loc main_arg4)) :=
    funext fun g => funext fun k => congrFun (W3_args m ρ c main_arg4 (by decide)) (ix2 g k)
  refine Eq.trans (congrArg₂ (fun (x : Fin 128 → EReal) (W : Fin 128 → Fin 128 → EReal) => passEntry 0x3F183370#32 0x3ECF991F#32
    (fun e => V3 m ρ c main_v1_4 (ix3 (⟨i.val / 8, by omega⟩ : Fin 1250) (⟨i.val % 8, by omega⟩ : Fin 8) e))
    (fun e k => V3 m ρ c main_v13 (ix2 e k)) (V3 m ρ c main_v14 (ix2 i 0)) x W h) hx hw) ?_
  exact hB.pass _ _ (X m c) (X m c) _ i _ _ _ (packed_eq3 m ρ c i) (scaled_eq m ρ c) (factor_eq m ρ c i) h

end Cert.Proof.Kernel

end
-- ==== Proof.Region2.lean ====
/- Region 2: the aggregated hyperedge features its output array holds after its twenty points, from its operands' arrays. -/
module

public import proofs.«01_k».proof.Proof.Gen.KernelIdeal.Frame
public import proofs.«01_k».proof.Proof.Payloads

@[expose] public section

set_option maxRecDepth 16384

noncomputable section

namespace Cert.Proof.Region2

open Idealize.ShloMosaic Idealize.ShloMosaic.TcCoe Idealize.ShloMosaic.ValueIdx
open Cert.KernelIdeal Cert.KernelIdeal.Gen Cert.Proof
open scoped BigOperators

variable (V : (c : Dev nD) → (b : Ref sig .tc) → Buf (Elt Ideal) ((c : Thread nD τ).loc b)) (c : Dev nD)

/-- The block indices of the three windows at a point. -/
theorem indices : ∀ t : Fin grid2.N,
    (win2_0.index t 0 = 0 ∧ win2_0.index t 1 = 0 ∧ win2_0.index t 2 = t.val)
    ∧ (win2_1.index t 0 = 0 ∧ win2_1.index t 1 = 0) ∧ (win2_2.index t 0 = 0 ∧ win2_2.index t 1 = t.val) := by decide +kernel

/-- A point is below twenty. -/
theorem point_lt (t : Fin cfg2.N) : t.val < 20 := lt_of_lt_of_eq t.isLt N_2

/-- The packed incidence's block at a point: every row's 512 columns. -/
theorem block0 (t : Fin cfg2.N) (a : Fin 1250) (b : Fin 8) (e : Fin 512) :
    (iblk2 V c 0 t : Vec Ideal S1250x8x512 .i8) (ix3 a b e)
      = V c main_v1_4 (ix3 a b ⟨512 * t.val + e.val, by have := point_lt t; omega⟩) := by
  have hi := (indices t).1
  unfold iblk2
  rw [View.read_apply]
  show V c main_v1_4 _ = V c main_v1_4 _
  congr 1; funext d; apply Fin.ext
  match d with
  | ⟨0, _⟩ => show win2_0.index t 0 * 1250 + 1 * a.val = a.val; rw [hi.1]; omega
  | ⟨1, _⟩ => show win2_0.index t 1 * 8 + 1 * b.val = b.val; rw [hi.2.1]; omega
  | ⟨2, _⟩ => show win2_0.index t 2 * 512 + 1 * e.val = 512 * t.val + e.val; rw [hi.2.2]; omega

/-- The transposed node features: the whole array at every point. -/
theorem block1 (t : Fin cfg2.N) (h : Fin 128) (i : Fin 10000) :
    (iblk2 V c 1 t : Vec Ideal S128x10000 .bf16) (ix2 h i) = V c main_v17 (ix2 h i) := by
  have hi := (indices t).2.1
  unfold iblk2
  rw [View.read_apply]
  show V c main_v17 _ = V c main_v17 _
  congr 1; funext d; apply Fin.ext
  match d with
  | ⟨0, _⟩ => show win2_1.index t 0 * 128 + 1 * h.val = h.val; rw [hi.1]; omega
  | ⟨1, _⟩ => show win2_1.index t 1 * 10000 + 1 * i.val = i.val; rw [hi.2]; omega

/-- The output array: each feature summed over each column of the packed incidence. -/
def result : S128x10240.Idx → EReal := fun j =>
  ∑ i : Fin 10000, weigh (V c main_v17 (ix2 (j 0) i)) (V c main_v1_4 (ix3 ⟨i.val / 8, by omega⟩ ⟨i.val % 8, by omega⟩ (j 1)))

/-- The body's block is the payload of the two blocks it loads whole. -/
theorem after_eq (t : Fin cfg2.N) : (dat2 V c).after 2 t = k2_pay1 (iblk2 V c 0 t) (iblk2 V c 1 t) := by
  have hz2 : (![0, 0] : Fin 2 → Nat) = fun _ => 0 := funext fun a => by fin_cases a <;> rfl
  have hz3 : (![0, 0, 0] : Fin 3 → Nat) = fun _ => 0 := funext fun a => by fin_cases a <;> rfl
  rw [after2_2]
  unfold out2_2
  rw [View.canon_unit_zero hz2]
  rw [View.ld_unit_zero hz3, View.ld_unit_zero hz2]

/-- The payload of a point's blocks, at an entry, is the output array's entry. -/
theorem entry (t : Fin cfg2.N) (h : Fin 128) (e : Fin 512) :
    k2_pay1 (F := Ideal) (iblk2 V c 0 t) (iblk2 V c 1 t) (ix2 h e)
      = result V c (ix2 h ⟨512 * t.val + e.val, by have := point_lt t; omega⟩) := by
  refine (k2_pay1_apply _ _ h e).trans (Finset.sum_congr rfl fun i _ => ?_)
  rw [block0, block1]
  rfl

/-- What a point writes back is the array's block there. -/
theorem flushed_eq (t : Fin cfg2.N) :
    (dat2 V c).flushed 2 t = ((cfg2.win 2).blk t).view.read (Elt Ideal) (result V c) := by
  have ht := point_lt t
  have hi := (indices t).2.2
  have hemb : ∀ (h : Fin 128) (e : Fin 512), ((cfg2.win 2).blk t).view.emb (ix2 h e)
      = (ix2 h (⟨512 * t.val + e.val, by omega⟩ : Fin 10240) : S128x10240.Idx) := fun h e => by
    funext d; apply Fin.ext
    match d with
    | ⟨0, _⟩ => show win2_2.index t 0 * 128 + 1 * h.val = h.val; rw [hi.1]; omega
    | ⟨1, _⟩ => show win2_2.index t 1 * 512 + 1 * e.val = 512 * t.val + e.val; rw [hi.2]; omega
  have hread : ∀ (h : Fin 128) (e : Fin 512), ((cfg2.win 2).blk t).view.read (Elt Ideal) (result V c) (ix2 h e)
      = result V c (ix2 h (⟨512 * t.val + e.val, by omega⟩ : Fin 10240)) := fun h e =>
    (View.read_apply _ _).trans (congrArg (result V c) (hemb h e))
  show (cfg2.win 2).cut (grid2.coords t) ((dat2 V c).after 2 t) = _
  rw [after_eq]
  refine funext fun (j : S128x512.Idx) => ?_
  rw [eq_ix2 j]
  exact (entry V c t (j 0) (j 1)).trans (hread (j 0) (j 1)).symm

/-- After the last point the output array is that one. -/
theorem final : (dat2 V c).arrAt 2 cfg2.N = result V c :=
  (dat2 V c).arrAt_eq_of_cover 2 (result V c) (fun t _ => flushed_eq V c t) fun (i : S128x10240.Idx) => by
    have h0 : (i 0 : Nat) < 128 := (i 0).isLt
    have h1 : (i 1 : Nat) < 10240 := (i 1).isLt
    let t : Fin grid2.N := ⟨(i 1 : Nat) / 512, by rw [show grid2.N = 20 from N_2]; omega⟩
    have hi := (indices t).2.2
    refine ⟨t, flush2_2 t, ?_⟩
    show i ∈ ((View.whole main_v18).slice (win2_2.rect t)).set
    rw [View.set_slice_whole, Rect.mem_set_unit]
    intro a
    match a with
    | ⟨0, _⟩ => show win2_2.index t 0 * 128 ≤ (i 0 : Nat) ∧ (i 0 : Nat) < win2_2.index t 0 * 128 + 128
                rw [hi.1]; omega
    | ⟨1, _⟩ => show win2_2.index t 1 * 512 ≤ (i 1 : Nat) ∧ (i 1 : Nat) < win2_2.index t 1 * 512 + 512
                rw [hi.2]; show (i 1 : Nat) / 512 * 512 ≤ _ ∧ _ < (i 1 : Nat) / 512 * 512 + 512; omega

end Cert.Proof.Region2

end
-- ==== Proof.Region3.lean ====
/- Region 3: what its output array holds after its ten points, from the contents of its operands' arrays. -/
module

public import proofs.«01_k».proof.Proof.Gen.KernelIdeal.Frame
public import proofs.«01_k».proof.Proof.Payloads

@[expose] public section

set_option maxRecDepth 16384

noncomputable section

namespace Cert.Proof.Region3

open Idealize.ShloMosaic Idealize.ShloMosaic.TcCoe Idealize.ShloMosaic.ValueIdx
open Cert.KernelIdeal Cert.KernelIdeal.Gen Cert.Proof
open scoped BigOperators

variable (V : (c : Dev nD) → (b : Ref sig .tc) → Buf (Elt Ideal) ((c : Thread nD τ).loc b)) (c : Dev nD)

/-- The block indices of the six windows at a point. -/
theorem indices : ∀ t : Fin grid3.N,
    (win3_0.index t 0 = t.val ∧ win3_0.index t 1 = 0 ∧ win3_0.index t 2 = 0)
    ∧ (win3_1.index t 0 = 0 ∧ win3_1.index t 1 = 0) ∧ (win3_2.index t 0 = t.val ∧ win3_2.index t 1 = 0)
    ∧ (win3_3.index t 0 = t.val ∧ win3_3.index t 1 = 0) ∧ (win3_4.index t 0 = 0 ∧ win3_4.index t 1 = 0)
    ∧ (win3_5.index t 0 = t.val ∧ win3_5.index t 1 = 0) := by decide +kernel

/-- A point is below ten. -/
theorem point_lt (t : Fin cfg3.N) : t.val < 10 := lt_of_lt_of_eq t.isLt N_3

/-- The packed incidence's block at a point: 125 groups of eight rows. -/
theorem block0 (t : Fin cfg3.N) (a : Fin 125) (b : Fin 8) (e : Fin 10240) :
    (iblk3 V c 0 t : Vec Ideal S125x8x10240 .i8) (ix3 a b e)
      = V c main_v1_4 (ix3 ⟨125 * t.val + a.val, by have := point_lt t; omega⟩ b e) := by
  have hi := (indices t).1
  unfold iblk3
  rw [View.read_apply]
  show V c main_v1_4 _ = V c main_v1_4 _
  congr 1; funext d; apply Fin.ext
  match d with
  | ⟨0, _⟩ => show win3_0.index t 0 * 125 + 1 * a.val = 125 * t.val + a.val; rw [hi.1]; omega
  | ⟨1, _⟩ => show win3_0.index t 1 * 8 + 1 * b.val = b.val; rw [hi.2.1]; omega
  | ⟨2, _⟩ => show win3_0.index t 2 * 10240 + 1 * e.val = e.val; rw [hi.2.2]; omega

/-- The hyperedge features' block: the whole array at every point. -/
theorem block1 (t : Fin cfg3.N) (e : Fin 10240) (k : Fin 128) :
    (iblk3 V c 1 t : Vec Ideal S10240x128 .bf16) (ix2 e k) = V c main_v26 (ix2 e k) := by
  have hi := (indices t).2.1
  unfold iblk3
  rw [View.read_apply]
  show V c main_v26 _ = V c main_v26 _
  congr 1; funext d; apply Fin.ext
  match d with
  | ⟨0, _⟩ => show win3_1.index t 0 * 10240 + 1 * e.val = e.val; rw [hi.1]; omega
  | ⟨1, _⟩ => show win3_1.index t 1 * 128 + 1 * k.val = k.val; rw [hi.2]; omega

/-- The skip connection's block: a thousand rows. -/
theorem block2 (t : Fin cfg3.N) (r : Fin 1000) (k : Fin 128) :
    (iblk3 V c 2 t : Vec Ideal S1000x128 .f32) (ix2 r k)
      = V c main_v1_0 (ix2 ⟨1000 * t.val + r.val, by have := point_lt t; omega⟩ k) := by
  have hi := (indices t).2.2.1
  unfold iblk3
  rw [View.read_apply]
  show V c main_v1_0 _ = V c main_v1_0 _
  congr 1; funext d; apply Fin.ext
  match d with
  | ⟨0, _⟩ => show win3_2.index t 0 * 1000 + 1 * r.val = 1000 * t.val + r.val; rw [hi.1]; omega
  | ⟨1, _⟩ => show win3_2.index t 1 * 128 + 1 * k.val = k.val; rw [hi.2]; omega

/-- The row factors' block. -/
theorem block3 (t : Fin cfg3.N) (r : Fin 1000) :
    (iblk3 V c 3 t : Vec Ideal S1000x1 .f32) (ix2 r 0)
      = V c main_v14 (ix2 ⟨1000 * t.val + r.val, by have := point_lt t; omega⟩ 0) := by
  have hi := (indices t).2.2.2.1
  unfold iblk3
  rw [View.read_apply]
  show V c main_v14 _ = V c main_v14 _
  congr 1; funext d; apply Fin.ext
  match d with
  | ⟨0, _⟩ => show win3_3.index t 0 * 1000 + 1 * r.val = 1000 * t.val + r.val; rw [hi.1]; omega
  | ⟨1, _⟩ => show win3_3.index t 1 * 1 + 1 * 0 = 0; rw [hi.2]

/-- The layer's weights: the whole array at every point. -/
theorem block4 (t : Fin cfg3.N) (h k : Fin 128) :
    (iblk3 V c 4 t : Vec Ideal S128x128 .f32) (ix2 h k) = V c main_arg5 (ix2 h k) := by
  have hi := (indices t).2.2.2.2.1
  unfold iblk3
  rw [View.read_apply]
  show V c main_arg5 _ = V c main_arg5 _
  congr 1; funext d; apply Fin.ext
  match d with
  | ⟨0, _⟩ => show win3_4.index t 0 * 128 + 1 * h.val = h.val; rw [hi.1]; omega
  | ⟨1, _⟩ => show win3_4.index t 1 * 128 + 1 * k.val = k.val; rw [hi.2]; omega

/-- The output array: every node's entry of the pass. -/
def result : S10000x128.Idx → EReal := fun i =>
  passEntry 0x3F46E010#32 0x3E647FBE#32 (fun e => V c main_v1_4 (ix3 ⟨(i 0).val / 8, by have : (i 0).val < 10000 := (i 0).isLt; omega⟩ ⟨(i 0).val % 8, by omega⟩ e))
    (fun e k => V c main_v26 (ix2 e k)) (V c main_v14 (ix2 (i 0) 0)) (fun k => V c main_v1_0 (ix2 (i 0) k))
    (fun h k => V c main_arg5 (ix2 h k)) (i 1)

/-- The body's block is the payload of the five blocks it loads whole. -/
theorem after_eq (t : Fin cfg3.N) :
    (dat3 V c).after 5 t
      = k3_pay1 (iblk3 V c 0 t) (iblk3 V c 1 t) (iblk3 V c 3 t) (iblk3 V c 2 t) (iblk3 V c 4 t) := by
  have hz2 : (![0, 0] : Fin 2 → Nat) = fun _ => 0 := funext fun a => by fin_cases a <;> rfl
  have hz3 : (![0, 0, 0] : Fin 3 → Nat) = fun _ => 0 := funext fun a => by fin_cases a <;> rfl
  rw [after3_5]
  unfold out3_5
  rw [View.canon_unit_zero hz2]
  rw [View.ld_unit_zero hz3, View.ld_unit_zero hz2, View.ld_unit_zero hz2, View.ld_unit_zero hz2, View.ld_unit_zero hz2]

/-- The payload of a point's blocks, at an entry, is the output array's entry. -/
theorem entry (t : Fin cfg3.N) (r : Fin 1000) (h : Fin 128) :
    k3_pay1 (F := Ideal) (iblk3 V c 0 t) (iblk3 V c 1 t) (iblk3 V c 3 t) (iblk3 V c 2 t) (iblk3 V c 4 t) (ix2 r h)
      = result V c (ix2 ⟨1000 * t.val + r.val, by have := point_lt t; omega⟩ h) := by
  have ht := point_lt t
  refine (k3_pay1_apply _ _ _ _ _ r h).trans ?_
  have e0 : (fun e : Fin 10240 => (iblk3 V c 0 t : Vec Ideal S125x8x10240 .i8) (ix3 ⟨r.val / 8, by omega⟩ ⟨r.val % 8, by omega⟩ e))
      = fun e => V c main_v1_4 (ix3 ⟨(1000 * t.val + r.val) / 8, by omega⟩ ⟨(1000 * t.val + r.val) % 8, by omega⟩ e) := by
    funext e
    rw [block0]
    congr 1; funext d; apply Fin.ext
    match d with
    | ⟨0, _⟩ => show 125 * t.val + r.val / 8 = (1000 * t.val + r.val) / 8; omega
    | ⟨1, _⟩ => show r.val % 8 = (1000 * t.val + r.val) % 8; omega
    | ⟨2, _⟩ => rfl
  have e1 : (fun (e : Fin 10240) (k : Fin 128) => (iblk3 V c 1 t : Vec Ideal S10240x128 .bf16) (ix2 e k)) = fun e k => V c main_v26 (ix2 e k) :=
    funext fun e => funext fun k => block1 V c t e k
  have e2 : (fun k : Fin 128 => (iblk3 V c 2 t : Vec Ideal S1000x128 .f32) (ix2 r k))
      = fun k => V c main_v1_0 (ix2 ⟨1000 * t.val + r.val, by omega⟩ k) := funext fun k => block2 V c t r k
  have e4 : (fun h k : Fin 128 => (iblk3 V c 4 t : Vec Ideal S128x128 .f32) (ix2 h k)) = fun h k => V c main_arg5 (ix2 h k) :=
    funext fun h => funext fun k => block4 V c t h k
  rw [e0, e1, e2, e4, block3]
  rfl

/-- What a point writes back is the array's block there. -/
theorem flushed_eq (t : Fin cfg3.N) :
    (dat3 V c).flushed 5 t = ((cfg3.win 5).blk t).view.read (Elt Ideal) (result V c) := by
  have ht := point_lt t
  have hi := (indices t).2.2.2.2.2
  have hemb : ∀ (r : Fin 1000) (h : Fin 128), ((cfg3.win 5).blk t).view.emb (ix2 r h)
      = (ix2 (⟨1000 * t.val + r.val, by omega⟩ : Fin 10000) h : S10000x128.Idx) := fun r h => by
    funext d; apply Fin.ext
    match d with
    | ⟨0, _⟩ => show win3_5.index t 0 * 1000 + 1 * r.val = 1000 * t.val + r.val; rw [hi.1]; omega
    | ⟨1, _⟩ => show win3_5.index t 1 * 128 + 1 * h.val = h.val; rw [hi.2]; omega
  have hread : ∀ (r : Fin 1000) (h : Fin 128), ((cfg3.win 5).blk t).view.read (Elt Ideal) (result V c) (ix2 r h)
      = result V c (ix2 (⟨1000 * t.val + r.val, by omega⟩ : Fin 10000) h) := fun r h =>
    (View.read_apply _ _).trans (congrArg (result V c) (hemb r h))
  show (cfg3.win 5).cut (grid3.coords t) ((dat3 V c).after 5 t) = _
  rw [after_eq]
  refine funext fun (j : S1000x128.Idx) => ?_
  rw [eq_ix2 j]
  exact (entry V c t (j 0) (j 1)).trans (hread (j 0) (j 1)).symm

/-- After the last point the output array is that one. -/
theorem final : (dat3 V c).arrAt 5 cfg3.N = result V c :=
  (dat3 V c).arrAt_eq_of_cover 5 (result V c) (fun t _ => flushed_eq V c t) fun (i : S10000x128.Idx) => by
    have h0 : (i 0 : Nat) < 10000 := (i 0).isLt
    have h1 : (i 1 : Nat) < 128 := (i 1).isLt
    let t : Fin grid3.N := ⟨(i 0 : Nat) / 1000, by rw [show grid3.N = 10 from N_3]; omega⟩
    have hi := (indices t).2.2.2.2.2
    refine ⟨t, flush3_5 t, ?_⟩
    show i ∈ ((View.whole main_v27).slice (win3_5.rect t)).set
    rw [View.set_slice_whole, Rect.mem_set_unit]
    intro a
    match a with
    | ⟨0, _⟩ => show win3_5.index t 0 * 1000 ≤ (i 0 : Nat) ∧ (i 0 : Nat) < win3_5.index t 0 * 1000 + 1000
                rw [hi.1]; show (i 0 : Nat) / 1000 * 1000 ≤ _ ∧ _ < (i 0 : Nat) / 1000 * 1000 + 1000; omega
    | ⟨1, _⟩ => show win3_5.index t 1 * 128 ≤ (i 1 : Nat) ∧ (i 1 : Nat) < win3_5.index t 1 * 128 + 128
                rw [hi.2]; omega

end Cert.Proof.Region3

end
-- ==== Proof.Kernel2.lean ====
/- The kernel's second layer: the hyperedges' sums and means of the first layer's output, and the last region's result. -/
module

public import proofs.«01_k».proof.Proof.Kernel1
public import proofs.«01_k».proof.Proof.Region2
public import proofs.«01_k».proof.Proof.Region3

@[expose] public section

set_option maxRecDepth 16384

noncomputable section

namespace Cert.Proof.Kernel

open Idealize.ShloMosaic Idealize.ShloMosaic.TcCoe Idealize.ShloMosaic.ValueIdx
open Cert.KernelIdeal Cert.KernelIdeal.Gen Cert.Proof
open scoped BigOperators

variable (m : (ℓ : Loc nD τ sig) → Buf (Elt Ideal) ℓ) (ρ : Dev nD → PrngReg) (c : Dev nD)

/-- What no segment from the second region's entry to the third's writes is carried there. -/
theorem carry5 (r : Ref sig .tc) (h4 : ∀ w : Fin cfg1.W, Pipeline.arrRef spec1 w = r → (cfg1.win w).isOut = false) (h5 : r ∉ hostOps2_W) :
    W5 m ρ c (Proc.devRef .tc r) = W3 m ρ c (Proc.devRef .tc r) :=
  (W5_of m ρ c r h5).trans (W4_of m ρ c r h4)

/-- What neither region between them nor the third stretch writes is carried to the third region's exit. -/
theorem carry6 (r : Ref sig .tc) (h4 : ∀ w : Fin cfg1.W, Pipeline.arrRef spec1 w = r → (cfg1.win w).isOut = false) (h5 : r ∉ hostOps2_W)
    (h6 : ∀ w : Fin cfg2.W, Pipeline.arrRef spec2 w = r → (cfg2.win w).isOut = false) :
    W6 m ρ c (Proc.devRef .tc r) = W3 m ρ c (Proc.devRef .tc r) :=
  (W6_of m ρ c r h6).trans (carry5 m ρ c r h4 h5)

/-- Before the third region: the first layer's output, transposed. -/
theorem features_eq (hB : Incidence (B m c)) (h : Fin 128) (i : Fin 10000) :
    W5 m ρ c (Proc.devRef .tc main_v17) (ix2 h i) = H m c i h := by
  refine (congrFun (Host.third_features (W4 m ρ c)) (ix2 h i)).trans ?_
  rw [truncf_apply]
  refine Eq.trans (transpose_apply [1, 0] _ transposes_S10000x128_S128x10000_1_0 (ix2 h i) (ix2 i h) fun a => ?_) (hidden_eq m ρ c hB i h)
  match a with
  | ⟨0, _⟩ => rfl
  | ⟨1, _⟩ => rfl

/-- After the third region: the hyperedges' sums of the first layer's output. -/
theorem sums_eq (hB : Incidence (B m c)) (h : Fin 128) (e : Fin 10000) :
    W6 m ρ c (Proc.devRef .tc main_v18) (ix2 h (⟨e.val, by omega⟩ : Fin 10240)) = edgeSum (B m c) (H m c) e h := by
  refine (congrFun ((W6_arr m ρ c 2).trans (Region2.final (V5 m ρ) c)) (ix2 h (⟨e.val, by omega⟩ : Fin 10240))).trans ?_
  show (∑ i : Fin 10000, weigh (V5 m ρ c main_v17 (ix2 h i))
    (V5 m ρ c main_v1_4 (ix3 (⟨i.val / 8, by omega⟩ : Fin 1250) (⟨i.val % 8, by omega⟩ : Fin 8) (⟨e.val, by omega⟩ : Fin 10240))) : EReal)
    = ∑ i, B m c i e * H m c i h
  refine Finset.sum_congr rfl fun i _ => ?_
  refine (congrArg₂ weigh (features_eq m ρ c hB h i)
    ((congrFun (carry5 m ρ c main_v1_4 (by decide +kernel) (by decide)) _).trans (packed_eq3 m ρ c i _))).trans ?_
  unfold weigh
  rw [padded_lt, hB.unpack_pack, mul_comm]

/-- After the fourth stretch: the second result is the hyperedges' means of the first layer's output. -/
theorem mean_eq (hB : Incidence (B m c)) (e : Fin 10000) (k : Fin 128) :
    W7 m ρ c (Proc.devRef .tc main_v22) (ix2 e k) = edgeMean (B m c) (H m c) e k := by
  refine (congrFun (Host.fourth_mean (W6 m ρ c)) (ix2 e k)).trans ?_
  refine Eq.trans (transpose_apply [1, 0] _ transposes_S128x10000_S10000x128_1_0 (ix2 e k) (ix2 k e) fun a => ?_) ?_
  · match a with
    | ⟨0, _⟩ => rfl
    | ⟨1, _⟩ => rfl
  refine (hostDivf_apply _ _ _).trans (congrArg₂ Ideal.div ?_ ?_)
  · refine Eq.trans (extractStridedSlice_apply _ _ slices_S128x10240_S128x10000_0_0 (ix2 k e) (ix2 k (⟨e.val, by omega⟩ : Fin 10240)) fun a => ?_)
      (sums_eq m ρ c hB k e)
    match a with
    | ⟨0, _⟩ => show k.val = 0 + k.val; omega
    | ⟨1, _⟩ => show e.val = 0 + e.val; omega
  · refine Eq.trans (broadcastInDim_apply _ _ _ (ix2 k e) (ix2 0 e) fun a => ?_)
      ((congrFun (carry6 m ρ c main_v2 (by decide +kernel) (by decide) (by decide +kernel)) (ix2 0 e)).trans (sizeRow_eq m ρ c e))
    match a with
    | ⟨0, _⟩ => rfl
    | ⟨1, _⟩ => rfl

/-- Before the last region: the scaled sums of the first layer's output. -/
theorem scaled_eq7 (hB : Incidence (B m c)) (e : Fin 10000) (h : Fin 128) :
    W7 m ρ c (Proc.devRef .tc main_v26) (ix2 (⟨e.val, by omega⟩ : Fin 10240) h) = edgeSum (B m c) (H m c) e h * scaleAt m c e := by
  refine (congrFun (Host.fourth_scaled (W6 m ρ c)) _).trans ((Host.scaled_apply _ _ _ h).trans ?_)
  exact congrArg₂ (fun a b : EReal => a * b) (sums_eq m ρ c hB h e)
    ((congrFun (carry6 m ρ c main_v9 (by decide +kernel) (by decide) (by decide +kernel)) _).trans (scale_eq m ρ c e))

/-- Before the last region: the packed incidence. -/
theorem packed_eq7 (i : Fin 10000) (e : Fin 10240) :
    W7 m ρ c (Proc.devRef .tc main_v1_4) (ix3 (⟨i.val / 8, by omega⟩ : Fin 1250) (⟨i.val % 8, by omega⟩ : Fin 8) e)
      = Ideal.fptosi 8 (padded (B m c i) e) :=
  (congrFun ((W7_of m ρ c main_v1_4 (by decide)).trans (carry6 m ρ c main_v1_4 (by decide +kernel) (by decide) (by decide +kernel))) _).trans
    (packed_eq3 m ρ c i e)

/-- Before the last region: the nodes' factors. -/
theorem factor_eq7 (i : Fin 10000) : W7 m ρ c (Proc.devRef .tc main_v14) (ix2 i 0) = Ideal.rsqrt (degree (B m c) i) :=
  (congrFun ((W7_of m ρ c main_v14 (by decide)).trans (carry6 m ρ c main_v14 (by decide +kernel) (by decide) (by decide +kernel))) _).trans
    (factor_eq m ρ c i)

/-- Before the last region: the embedding. -/
theorem x_eq7 (i : Fin 10000) (h : Fin 128) : W7 m ρ c (Proc.devRef .tc main_v1_0) (ix2 i h) = X m c i h :=
  (congrFun ((W7_of m ρ c main_v1_0 (by decide)).trans (carry6 m ρ c main_v1_0 (by decide +kernel) (by decide) (by decide +kernel))) _).trans
    (x_eq3 m ρ c i h)

/-- At the end: the first result is the second layer's output. -/
theorem result_one (hB : Incidence (B m c)) (i : Fin 10000) (h : Fin 128) :
    W8 m ρ c (Proc.devRef .tc main_v27) (ix2 i h)
      = layer second₁ second₂ (B m c) (H m c) (X m c) (Reference.wts (m ((c.tc : Thread nD τ).loc main_arg5))) i h := by
  refine (congrFun ((W8_arr m ρ c 5).trans (Region3.final (V7 m ρ) c)) (ix2 i h)).trans ?_
  unfold Region3.result
  have hx : (fun k => V7 m ρ c main_v1_0 (ix2 i k)) = X m c i := funext fun k => x_eq7 m ρ c i k
  have hw : (fun g k => V7 m ρ c main_arg5 (ix2 g k)) = Reference.wts (m ((c.tc : Thread nD τ).loc main_arg5)) :=
    funext fun g => funext fun k => congrFun (W7_args m ρ c main_arg5 (by decide)) (ix2 g k)
  refine Eq.trans (congrArg₂ (fun (x : Fin 128 → EReal) (W : Fin 128 → Fin 128 → EReal) => passEntry 0x3F46E010#32 0x3E647FBE#32
    (fun e => V7 m ρ c main_v1_4 (ix3 (⟨i.val / 8, by omega⟩ : Fin 1250) (⟨i.val % 8, by omega⟩ : Fin 8) e))
    (fun e k => V7 m ρ c main_v26 (ix2 e k)) (V7 m ρ c main_v14 (ix2 i 0)) x W h) hx hw) ?_
  exact hB.pass _ _ (H m c) (X m c) _ i _ _ _ (packed_eq7 m ρ c i) (scaled_eq7 m ρ c hB) (factor_eq7 m ρ c i) h

/-- At the end: the second result is the hyperedges' means of the first layer's output. -/
theorem result_two (hB : Incidence (B m c)) (e : Fin 10000) (k : Fin 128) :
    W8 m ρ c (Proc.devRef .tc main_v22) (ix2 e k) = edgeMean (B m c) (H m c) e k :=
  (congrFun (W8_of_ne m ρ c main_v22 (by decide +kernel)) (ix2 e k)).trans (mean_eq m ρ c hB e k)

end Cert.Proof.Kernel

end
-- ==== Proof.Precondition.lean ====
/- What the precondition says: the incidence is binary and none of its rows is empty. -/
module

public import proofs.«01_k».proof.Proof.Gen.Pre_binary_incidence
public import proofs.«01_k».proof.Proof.Reference
public import proofs.«01_k».proof.Proof.Algebra
public import Idealize.ShloMosaic.Lib.IdealHost
public import Idealize.ShloMosaic.Lib.Pointwise.ElementwiseCore

@[expose] public section

set_option maxRecDepth 16384

noncomputable section

namespace Cert.Proof

open Idealize.ShloMosaic Idealize.ShloMosaic.ValueIdx
open Cert.Pre_binary_incidence
open scoped BigOperators

/-- A one-bit conjunction of a disjunction and a bit is one exactly when a disjunct and the bit are. -/
theorem bits_one (p q r : Prop) [Decidable p] [Decidable q] [Decidable r]
    (h : IntOp.andi (IntOp.ori (BitVec.ofBool (decide p)) (BitVec.ofBool (decide q))) (BitVec.ofBool (decide r)) = 1#1) : (p ∨ q) ∧ r := by
  by_cases hp : p <;> by_cases hq : q <;> by_cases hr : r <;> simp_all [IntOp.andi, IntOp.ori]

/-- The precondition's row sum is the node's degree. -/
theorem rowSum_eq (x1 : FVec Ideal S10000x10000 .f32) (i : Fin 10000) :
    Host.reduceAdd x1 (constant (F := Ideal) S_ .f32 0x00000000#32) Facts.reducesTo_S10000x10000_S10000_d1 Facts.h_S_ (ix1 i)
      = degree (Reference.inc x1) i := Reference.degree_one x1 i

/-- The precondition's value at a node and a hyperedge, as comparisons of numbers. -/
theorem fn_apply (x0 : FVec Ideal S10000x128 .f32) (x1 : FVec Ideal S10000x10000 .f32) (x2 : FVec Ideal S128x128 .f32)
    (x3 : FVec Ideal S128 .f32) (x4 x5 : FVec Ideal S128x128 .f32) (i e : Fin 10000) :
    fn (F := Ideal) x0 x1 x2 x3 x4 x5 (ix2 i e)
      = IntOp.andi (IntOp.ori (Ideal.cmp .oeq (x1 (ix2 i e)) (Ideal.ofBits .f32 0x00000000#32)) (Ideal.cmp .oeq (x1 (ix2 i e)) (Ideal.ofBits .f32 0x3F800000#32)))
          (Ideal.cmp .ogt (degree (Reference.inc x1) i) (Ideal.ofBits .f32 0x00000000#32)) := by
  unfold fn
  dsimp only
  rw [andi_apply, ori_apply, cmpf_apply, cmpf_apply, broadcastInDim_scalar_apply, broadcastInDim_scalar_apply,
    broadcastInDim_apply _ _ _ _ (ix2 i 0) (by intro a; match a with | ⟨0, _⟩ => rfl | ⟨1, _⟩ => rfl), cmpf_apply,
    broadcastInDim_scalar_apply,
    broadcastInDim_apply _ _ _ _ (ix1 i) (by intro a; match a with | ⟨0, _⟩ => rfl), rowSum_eq]
  rfl

/-- Where the precondition holds, the incidence is binary and no row of it is empty. -/
theorem incidence_of_pre (x0 : FVec Ideal S10000x128 .f32) (x1 : FVec Ideal S10000x10000 .f32) (x2 : FVec Ideal S128x128 .f32)
    (x3 : FVec Ideal S128 .f32) (x4 x5 : FVec Ideal S128x128 .f32) (h : fn (F := Ideal) x0 x1 x2 x3 x4 x5 = fun _ => 1#1) :
    Incidence (Reference.inc x1) := by
  have key : ∀ i e, (Reference.inc x1 i e = 0 ∨ Reference.inc x1 i e = 1) ∧ 0 < degree (Reference.inc x1) i := fun i e => by
    have h1 := (fn_apply x0 x1 x2 x3 x4 x5 i e).symm.trans (congrFun h (ix2 i e))
    rw [Ideal.ofBits_zero_f32, Ideal.ofBits_one_f32] at h1
    exact bits_one _ _ _ h1
  exact ⟨fun i e => (key i e).1, fun i => (key i ⟨0, by decide⟩).2⟩

end Cert.Proof

end
-- ==== Proof.Run.lean ====
/- The kernel's run with its results named: every execution ends with the two result buffers at the contents the fold of the
   segments leaves in them, and the arguments as launched. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel ends with both results at the last boundary's contents and every argument as
    launched. -/
theorem run_results : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_v22) = W8 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v27 (by decide)), h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.Equation.lean ====
/- The two programs' results are equal, from memories that agree on the arguments, under the precondition. -/
module

public import proofs.«01_k».proof.Defs
public import proofs.«01_k».proof.Proof.Kernel2
public import proofs.«01_k».proof.Proof.Precondition
public import proofs.«01_k».proof.Proof.Run
public import proofs.«01_k».proof.Proof.Gen.ReferenceIdeal.Run

@[expose] public section

set_option maxRecDepth 16384

noncomputable section

namespace Cert.Proof

open Idealize.ShloMosaic Idealize.ShloMosaic.TcCoe Idealize.ShloMosaic.ValueIdx Idealize.SL.Sem

/-- The reference's two results at a device's arguments are the kernel's last contents of its result buffers. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hB : Incidence (Kernel.B m c)) :
    Cert.ReferenceIdeal.Read.val_main_v67 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Gen.W8 m ρ c (Proc.devRef .tc Cert.KernelIdeal.main_v27)
    ∧ Cert.ReferenceIdeal.Read.val_main_v42 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Gen.W8 m ρ c (Proc.devRef .tc Cert.KernelIdeal.main_v22) := by
  constructor
  · refine funext fun (i : Cert.KernelIdeal.S10000x128.Idx) => ?_
    rw [eq_ix2 i]
    exact (Reference.layer_two _ _ _ _ _ _ (i 0) (i 1)).trans (Kernel.result_one m ρ c hB (i 0) (i 1)).symm
  · refine funext fun (i : Cert.KernelIdeal.S10000x128.Idx) => ?_
    rw [eq_ix2 i]
    exact (Reference.mean_two _ _ _ _ _ (i 0) (i 1)).trans (Kernel.result_two m ρ c hB (i 0) (i 1)).symm

/-- From agreeing arguments that satisfy the precondition, every execution of either program ends with the same two results. -/
theorem algebraic : Cert.algebraic_KernelIdeal_ReferenceIdeal_pre_binary_incidence := by
  intro m g m' g' hpre hargs
  refine ⟨fun c => Cert.KernelIdeal.Gen.W8 m g c (Proc.devRef .tc Cert.KernelIdeal.main_v27),
    fun c => Cert.KernelIdeal.Gen.W8 m g c (Proc.devRef .tc Cert.KernelIdeal.main_v22), Cert.KernelIdeal.Gen.run_results m g,
    (θ_run Cert.ReferenceIdeal.defs _ _).mono (fun r h c => ?_) (Cert.ReferenceIdeal.Value.run m' g')⟩
  obtain ⟨h67, h42, hrest⟩ := h c
  obtain ⟨a0, a1, a2, a3, a4, a5⟩ := hargs c
  obtain ⟨r1, r2⟩ := results_eq m g c (incidence_of_pre _ _ _ _ _ _ (hpre c))
  refine ⟨h67.trans ((Cert.ReferenceIdeal.Read.val_main_v67_eq m' c).trans ?_), h42.trans ((Cert.ReferenceIdeal.Read.val_main_v42_eq m' c).trans ?_), hrest⟩
  · rw [a0, a1, a2, a3, a4, a5]; exact r1
  · rw [a0, a1, a2, a3, a4]; exact r2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_binary_incidence
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every execution of the reference ends with its arguments as launched and no counter raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, sem_eq_zero_of_no_sems (by decide) r.2⟩)
    (Cert.ReferenceIdeal.Value.run m g)

/-- The kernel's and the reference's frames, the idealisation and the equality of the two results. -/
theorem claim : Cert.Claim :=
  ⟨Cert.Kernel.Gen.facts, Cert.KernelIdeal.Gen.facts, Cert.ReferenceIdeal.Gen.facts, Cert.Pre_binary_incidence.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
